-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x2048 : Shape := ⟨2, ![2048, 2048]⟩
abbrev S2048x64 : Shape := ⟨2, ![2048, 64]⟩
abbrev S32x64x64 : Shape := ⟨3, ![32, 64, 64]⟩
abbrev S4 : Shape := ⟨1, ![4]⟩
abbrev S_ : Shape := ⟨0, ![]⟩
abbrev S1 : Shape := ⟨1, ![1]⟩
abbrev S512x2048 : Shape := ⟨2, ![512, 2048]⟩
abbrev S64x512 : Shape := ⟨2, ![64, 512]⟩
abbrev S512x1024 : Shape := ⟨2, ![512, 1024]⟩
abbrev S64x1024 : Shape := ⟨2, ![64, 1024]⟩
abbrev S64x64 : Shape := ⟨2, ![64, 64]⟩
abbrev S1x64x64 : Shape := ⟨3, ![1, 64, 64]⟩
abbrev S2048x1024 : Shape := ⟨2, ![2048, 1024]⟩
abbrev S31x64x64 : Shape := ⟨3, ![31, 64, 64]⟩

abbrev nBuf : Space → Nat
  | .hbm => 3
  | .vmem => 5
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S2048x64, .f32⟩
  | .local _ .vmem, ⟨0, _⟩ => ⟨S64x2048, .f32⟩
  | .local _ .vmem, ⟨1, _⟩ => ⟨S2048x64, .f32⟩
  | .local _ .vmem, ⟨2, _⟩ => ⟨S2048x2048, .f32⟩
  | .local _ .vmem, ⟨3, _⟩ => ⟨S32x64x64, .bf16⟩
  | .local _ .vmem, ⟨4, _⟩ => ⟨S32x64x64, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_14 : BitVec 32 := 0#32
  let v20 : BitVec 1 := Scalar.cmpi .ne v2 c0_i32_14
  let v21 : BitVec 32 := Scalar.extui v20
  let c0_i32_15 : BitVec 32 := 0#32
  let v22 : BitVec 1 := Scalar.cmpi .ne v21 c0_i32_15
  v22

def k0_dev1 : Nat :=
  let c0_i32_317 : BitVec 32 := 0#32
  let c0_i32_315 : BitVec 32 := 0#32
  let c1_i32_316 : BitVec 32 := 1#32
  let v513 : BitVec 32 := Scalar.muli c0_i32_315 c1_i32_316
  let v514 : BitVec 32 := Scalar.addi c0_i32_317 v513
  v514.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v23 : BitVec 1 := Scalar.cmpi .ne v2 c1_i32_16
  let v24 : BitVec 32 := Scalar.extui v23
  let c0_i32_17 : BitVec 32 := 0#32
  let v25 : BitVec 1 := Scalar.cmpi .ne v24 c0_i32_17
  v25

def k0_dev2 : Nat :=
  let c0_i32_317 : BitVec 32 := 0#32
  let c1_i32_315 : BitVec 32 := 1#32
  let c1_i32_316 : BitVec 32 := 1#32
  let v513 : BitVec 32 := Scalar.muli c1_i32_315 c1_i32_316
  let v514 : BitVec 32 := Scalar.addi c0_i32_317 v513
  v514.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_18 : BitVec 32 := 2#32
  let v26 : BitVec 1 := Scalar.cmpi .ne v2 c2_i32_18
  let v27 : BitVec 32 := Scalar.extui v26
  let c0_i32_19 : BitVec 32 := 0#32
  let v28 : BitVec 1 := Scalar.cmpi .ne v27 c0_i32_19
  v28

def k0_dev3 : Nat :=
  let c0_i32_317 : BitVec 32 := 0#32
  let c2_i32_315 : BitVec 32 := 2#32
  let c1_i32_316 : BitVec 32 := 1#32
  let v513 : BitVec 32 := Scalar.muli c2_i32_315 c1_i32_316
  let v514 : BitVec 32 := Scalar.addi c0_i32_317 v513
  v514.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_20 : BitVec 32 := 3#32
  let v29 : BitVec 1 := Scalar.cmpi .ne v2 c3_i32_20
  let v30 : BitVec 32 := Scalar.extui v29
  let c0_i32_21 : BitVec 32 := 0#32
  let v31 : BitVec 1 := Scalar.cmpi .ne v30 c0_i32_21
  v31

def k0_dev4 : Nat :=
  let c0_i32_317 : BitVec 32 := 0#32
  let c3_i32_315 : BitVec 32 := 3#32
  let c1_i32_316 : BitVec 32 := 1#32
  let v513 : BitVec 32 := Scalar.muli c3_i32_315 c1_i32_316
  let v514 : BitVec 32 := Scalar.addi c0_i32_317 v513
  v514.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v32 : BitVec 1 := Scalar.cmpi .ne v2 c4_i32
  let v33 : BitVec 32 := Scalar.extui v32
  let c0_i32_22 : BitVec 32 := 0#32
  let v34 : BitVec 1 := Scalar.cmpi .ne v33 c0_i32_22
  v34

def k0_dev5 : Nat :=
  let c0_i32_317 : BitVec 32 := 0#32
  let c4_i32_315 : BitVec 32 := 4#32
  let c1_i32_316 : BitVec 32 := 1#32
  let v513 : BitVec 32 := Scalar.muli c4_i32_315 c1_i32_316
  let v514 : BitVec 32 := Scalar.addi c0_i32_317 v513
  v514.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v35 : BitVec 1 := Scalar.cmpi .ne v2 c5_i32
  let v36 : BitVec 32 := Scalar.extui v35
  let c0_i32_23 : BitVec 32 := 0#32
  let v37 : BitVec 1 := Scalar.cmpi .ne v36 c0_i32_23
  v37

def k0_dev6 : Nat :=
  let c0_i32_317 : BitVec 32 := 0#32
  let c5_i32_315 : BitVec 32 := 5#32
  let c1_i32_316 : BitVec 32 := 1#32
  let v513 : BitVec 32 := Scalar.muli c5_i32_315 c1_i32_316
  let v514 : BitVec 32 := Scalar.addi c0_i32_317 v513
  v514.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v38 : BitVec 1 := Scalar.cmpi .ne v2 c6_i32
  let v39 : BitVec 32 := Scalar.extui v38
  let c0_i32_24 : BitVec 32 := 0#32
  let v40 : BitVec 1 := Scalar.cmpi .ne v39 c0_i32_24
  v40

def k0_dev7 : Nat :=
  let c0_i32_317 : BitVec 32 := 0#32
  let c6_i32_315 : BitVec 32 := 6#32
  let c1_i32_316 : BitVec 32 := 1#32
  let v513 : BitVec 32 := Scalar.muli c6_i32_315 c1_i32_316
  let v514 : BitVec 32 := Scalar.addi c0_i32_317 v513
  v514.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v41 : BitVec 1 := Scalar.cmpi .ne v2 c7_i32
  let v42 : BitVec 32 := Scalar.extui v41
  let c0_i32_25 : BitVec 32 := 0#32
  let v43 : BitVec 1 := Scalar.cmpi .ne v42 c0_i32_25
  v43

def k0_dev8 : Nat :=
  let c0_i32_317 : BitVec 32 := 0#32
  let c7_i32_315 : BitVec 32 := 7#32
  let c1_i32_316 : BitVec 32 := 1#32
  let v513 : BitVec 32 := Scalar.muli c7_i32_315 c1_i32_316
  let v514 : BitVec 32 := Scalar.addi c0_i32_317 v513
  v514.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v44 : BitVec 1 := Scalar.cmpi .ne v2 c8_i32
  let v45 : BitVec 32 := Scalar.extui v44
  let c0_i32_26 : BitVec 32 := 0#32
  let v46 : BitVec 1 := Scalar.cmpi .ne v45 c0_i32_26
  v46

def k0_dev9 : Nat :=
  let c0_i32_317 : BitVec 32 := 0#32
  let c8_i32_315 : BitVec 32 := 8#32
  let c1_i32_316 : BitVec 32 := 1#32
  let v513 : BitVec 32 := Scalar.muli c8_i32_315 c1_i32_316
  let v514 : BitVec 32 := Scalar.addi c0_i32_317 v513
  v514.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v47 : BitVec 1 := Scalar.cmpi .ne v2 c9_i32
  let v48 : BitVec 32 := Scalar.extui v47
  let c0_i32_27 : BitVec 32 := 0#32
  let v49 : BitVec 1 := Scalar.cmpi .ne v48 c0_i32_27
  v49

def k0_dev10 : Nat :=
  let c0_i32_317 : BitVec 32 := 0#32
  let c9_i32_315 : BitVec 32 := 9#32
  let c1_i32_316 : BitVec 32 := 1#32
  let v513 : BitVec 32 := Scalar.muli c9_i32_315 c1_i32_316
  let v514 : BitVec 32 := Scalar.addi c0_i32_317 v513
  v514.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v50 : BitVec 1 := Scalar.cmpi .ne v2 c10_i32
  let v51 : BitVec 32 := Scalar.extui v50
  let c0_i32_28 : BitVec 32 := 0#32
  let v52 : BitVec 1 := Scalar.cmpi .ne v51 c0_i32_28
  v52

def k0_dev11 : Nat :=
  let c0_i32_317 : BitVec 32 := 0#32
  let c10_i32_315 : BitVec 32 := 10#32
  let c1_i32_316 : BitVec 32 := 1#32
  let v513 : BitVec 32 := Scalar.muli c10_i32_315 c1_i32_316
  let v514 : BitVec 32 := Scalar.addi c0_i32_317 v513
  v514.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v53 : BitVec 1 := Scalar.cmpi .ne v2 c11_i32
  let v54 : BitVec 32 := Scalar.extui v53
  let c0_i32_29 : BitVec 32 := 0#32
  let v55 : BitVec 1 := Scalar.cmpi .ne v54 c0_i32_29
  v55

def k0_dev12 : Nat :=
  let c0_i32_317 : BitVec 32 := 0#32
  let c11_i32_315 : BitVec 32 := 11#32
  let c1_i32_316 : BitVec 32 := 1#32
  let v513 : BitVec 32 := Scalar.muli c11_i32_315 c1_i32_316
  let v514 : BitVec 32 := Scalar.addi c0_i32_317 v513
  v514.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v56 : BitVec 1 := Scalar.cmpi .ne v2 c12_i32
  let v57 : BitVec 32 := Scalar.extui v56
  let c0_i32_30 : BitVec 32 := 0#32
  let v58 : BitVec 1 := Scalar.cmpi .ne v57 c0_i32_30
  v58

def k0_dev13 : Nat :=
  let c0_i32_317 : BitVec 32 := 0#32
  let c12_i32_315 : BitVec 32 := 12#32
  let c1_i32_316 : BitVec 32 := 1#32
  let v513 : BitVec 32 := Scalar.muli c12_i32_315 c1_i32_316
  let v514 : BitVec 32 := Scalar.addi c0_i32_317 v513
  v514.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v59 : BitVec 1 := Scalar.cmpi .ne v2 c13_i32
  let v60 : BitVec 32 := Scalar.extui v59
  let c0_i32_31 : BitVec 32 := 0#32
  let v61 : BitVec 1 := Scalar.cmpi .ne v60 c0_i32_31
  v61

def k0_dev14 : Nat :=
  let c0_i32_317 : BitVec 32 := 0#32
  let c13_i32_315 : BitVec 32 := 13#32
  let c1_i32_316 : BitVec 32 := 1#32
  let v513 : BitVec 32 := Scalar.muli c13_i32_315 c1_i32_316
  let v514 : BitVec 32 := Scalar.addi c0_i32_317 v513
  v514.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v62 : BitVec 1 := Scalar.cmpi .ne v2 c14_i32
  let v63 : BitVec 32 := Scalar.extui v62
  let c0_i32_32 : BitVec 32 := 0#32
  let v64 : BitVec 1 := Scalar.cmpi .ne v63 c0_i32_32
  v64

def k0_dev15 : Nat :=
  let c0_i32_317 : BitVec 32 := 0#32
  let c14_i32_315 : BitVec 32 := 14#32
  let c1_i32_316 : BitVec 32 := 1#32
  let v513 : BitVec 32 := Scalar.muli c14_i32_315 c1_i32_316
  let v514 : BitVec 32 := Scalar.addi c0_i32_317 v513
  v514.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v65 : BitVec 1 := Scalar.cmpi .ne v2 c15_i32
  let v66 : BitVec 32 := Scalar.extui v65
  let c0_i32_33 : BitVec 32 := 0#32
  let v67 : BitVec 1 := Scalar.cmpi .ne v66 c0_i32_33
  v67

def k0_dev16 : Nat :=
  let c0_i32_317 : BitVec 32 := 0#32
  let c15_i32_315 : BitVec 32 := 15#32
  let c1_i32_316 : BitVec 32 := 1#32
  let v513 : BitVec 32 := Scalar.muli c15_i32_315 c1_i32_316
  let v514 : BitVec 32 := Scalar.addi c0_i32_317 v513
  v514.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v68 : BitVec 1 := Scalar.cmpi .ne v2 c16_i32
  let v69 : BitVec 32 := Scalar.extui v68
  let c0_i32_34 : BitVec 32 := 0#32
  let v70 : BitVec 1 := Scalar.cmpi .ne v69 c0_i32_34
  v70

def k0_dev17 : Nat :=
  let c0_i32_317 : BitVec 32 := 0#32
  let c16_i32_315 : BitVec 32 := 16#32
  let c1_i32_316 : BitVec 32 := 1#32
  let v513 : BitVec 32 := Scalar.muli c16_i32_315 c1_i32_316
  let v514 : BitVec 32 := Scalar.addi c0_i32_317 v513
  v514.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v71 : BitVec 1 := Scalar.cmpi .ne v2 c17_i32
  let v72 : BitVec 32 := Scalar.extui v71
  let c0_i32_35 : BitVec 32 := 0#32
  let v73 : BitVec 1 := Scalar.cmpi .ne v72 c0_i32_35
  v73

def k0_dev18 : Nat :=
  let c0_i32_317 : BitVec 32 := 0#32
  let c17_i32_315 : BitVec 32 := 17#32
  let c1_i32_316 : BitVec 32 := 1#32
  let v513 : BitVec 32 := Scalar.muli c17_i32_315 c1_i32_316
  let v514 : BitVec 32 := Scalar.addi c0_i32_317 v513
  v514.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v74 : BitVec 1 := Scalar.cmpi .ne v2 c18_i32
  let v75 : BitVec 32 := Scalar.extui v74
  let c0_i32_36 : BitVec 32 := 0#32
  let v76 : BitVec 1 := Scalar.cmpi .ne v75 c0_i32_36
  v76

def k0_dev19 : Nat :=
  let c0_i32_317 : BitVec 32 := 0#32
  let c18_i32_315 : BitVec 32 := 18#32
  let c1_i32_316 : BitVec 32 := 1#32
  let v513 : BitVec 32 := Scalar.muli c18_i32_315 c1_i32_316
  let v514 : BitVec 32 := Scalar.addi c0_i32_317 v513
  v514.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v77 : BitVec 1 := Scalar.cmpi .ne v2 c19_i32
  let v78 : BitVec 32 := Scalar.extui v77
  let c0_i32_37 : BitVec 32 := 0#32
  let v79 : BitVec 1 := Scalar.cmpi .ne v78 c0_i32_37
  v79

def k0_dev20 : Nat :=
  let c0_i32_317 : BitVec 32 := 0#32
  let c19_i32_315 : BitVec 32 := 19#32
  let c1_i32_316 : BitVec 32 := 1#32
  let v513 : BitVec 32 := Scalar.muli c19_i32_315 c1_i32_316
  let v514 : BitVec 32 := Scalar.addi c0_i32_317 v513
  v514.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 1 := Scalar.cmpi .ne v2 c20_i32
  let v81 : BitVec 32 := Scalar.extui v80
  let c0_i32_38 : BitVec 32 := 0#32
  let v82 : BitVec 1 := Scalar.cmpi .ne v81 c0_i32_38
  v82

def k0_dev21 : Nat :=
  let c0_i32_317 : BitVec 32 := 0#32
  let c20_i32_315 : BitVec 32 := 20#32
  let c1_i32_316 : BitVec 32 := 1#32
  let v513 : BitVec 32 := Scalar.muli c20_i32_315 c1_i32_316
  let v514 : BitVec 32 := Scalar.addi c0_i32_317 v513
  v514.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v83 : BitVec 1 := Scalar.cmpi .ne v2 c21_i32
  let v84 : BitVec 32 := Scalar.extui v83
  let c0_i32_39 : BitVec 32 := 0#32
  let v85 : BitVec 1 := Scalar.cmpi .ne v84 c0_i32_39
  v85

def k0_dev22 : Nat :=
  let c0_i32_317 : BitVec 32 := 0#32
  let c21_i32_315 : BitVec 32 := 21#32
  let c1_i32_316 : BitVec 32 := 1#32
  let v513 : BitVec 32 := Scalar.muli c21_i32_315 c1_i32_316
  let v514 : BitVec 32 := Scalar.addi c0_i32_317 v513
  v514.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v86 : BitVec 1 := Scalar.cmpi .ne v2 c22_i32
  let v87 : BitVec 32 := Scalar.extui v86
  let c0_i32_40 : BitVec 32 := 0#32
  let v88 : BitVec 1 := Scalar.cmpi .ne v87 c0_i32_40
  v88

def k0_dev23 : Nat :=
  let c0_i32_317 : BitVec 32 := 0#32
  let c22_i32_315 : BitVec 32 := 22#32
  let c1_i32_316 : BitVec 32 := 1#32
  let v513 : BitVec 32 := Scalar.muli c22_i32_315 c1_i32_316
  let v514 : BitVec 32 := Scalar.addi c0_i32_317 v513
  v514.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v89 : BitVec 1 := Scalar.cmpi .ne v2 c23_i32
  let v90 : BitVec 32 := Scalar.extui v89
  let c0_i32_41 : BitVec 32 := 0#32
  let v91 : BitVec 1 := Scalar.cmpi .ne v90 c0_i32_41
  v91

def k0_dev24 : Nat :=
  let c0_i32_317 : BitVec 32 := 0#32
  let c23_i32_315 : BitVec 32 := 23#32
  let c1_i32_316 : BitVec 32 := 1#32
  let v513 : BitVec 32 := Scalar.muli c23_i32_315 c1_i32_316
  let v514 : BitVec 32 := Scalar.addi c0_i32_317 v513
  v514.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v92 : BitVec 1 := Scalar.cmpi .ne v2 c24_i32
  let v93 : BitVec 32 := Scalar.extui v92
  let c0_i32_42 : BitVec 32 := 0#32
  let v94 : BitVec 1 := Scalar.cmpi .ne v93 c0_i32_42
  v94

def k0_dev25 : Nat :=
  let c0_i32_317 : BitVec 32 := 0#32
  let c24_i32_315 : BitVec 32 := 24#32
  let c1_i32_316 : BitVec 32 := 1#32
  let v513 : BitVec 32 := Scalar.muli c24_i32_315 c1_i32_316
  let v514 : BitVec 32 := Scalar.addi c0_i32_317 v513
  v514.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v95 : BitVec 1 := Scalar.cmpi .ne v2 c25_i32
  let v96 : BitVec 32 := Scalar.extui v95
  let c0_i32_43 : BitVec 32 := 0#32
  let v97 : BitVec 1 := Scalar.cmpi .ne v96 c0_i32_43
  v97

def k0_dev26 : Nat :=
  let c0_i32_317 : BitVec 32 := 0#32
  let c25_i32_315 : BitVec 32 := 25#32
  let c1_i32_316 : BitVec 32 := 1#32
  let v513 : BitVec 32 := Scalar.muli c25_i32_315 c1_i32_316
  let v514 : BitVec 32 := Scalar.addi c0_i32_317 v513
  v514.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v98 : BitVec 1 := Scalar.cmpi .ne v2 c26_i32
  let v99 : BitVec 32 := Scalar.extui v98
  let c0_i32_44 : BitVec 32 := 0#32
  let v100 : BitVec 1 := Scalar.cmpi .ne v99 c0_i32_44
  v100

def k0_dev27 : Nat :=
  let c0_i32_317 : BitVec 32 := 0#32
  let c26_i32_315 : BitVec 32 := 26#32
  let c1_i32_316 : BitVec 32 := 1#32
  let v513 : BitVec 32 := Scalar.muli c26_i32_315 c1_i32_316
  let v514 : BitVec 32 := Scalar.addi c0_i32_317 v513
  v514.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v101 : BitVec 1 := Scalar.cmpi .ne v2 c27_i32
  let v102 : BitVec 32 := Scalar.extui v101
  let c0_i32_45 : BitVec 32 := 0#32
  let v103 : BitVec 1 := Scalar.cmpi .ne v102 c0_i32_45
  v103

def k0_dev28 : Nat :=
  let c0_i32_317 : BitVec 32 := 0#32
  let c27_i32_315 : BitVec 32 := 27#32
  let c1_i32_316 : BitVec 32 := 1#32
  let v513 : BitVec 32 := Scalar.muli c27_i32_315 c1_i32_316
  let v514 : BitVec 32 := Scalar.addi c0_i32_317 v513
  v514.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v104 : BitVec 1 := Scalar.cmpi .ne v2 c28_i32
  let v105 : BitVec 32 := Scalar.extui v104
  let c0_i32_46 : BitVec 32 := 0#32
  let v106 : BitVec 1 := Scalar.cmpi .ne v105 c0_i32_46
  v106

def k0_dev29 : Nat :=
  let c0_i32_317 : BitVec 32 := 0#32
  let c28_i32_315 : BitVec 32 := 28#32
  let c1_i32_316 : BitVec 32 := 1#32
  let v513 : BitVec 32 := Scalar.muli c28_i32_315 c1_i32_316
  let v514 : BitVec 32 := Scalar.addi c0_i32_317 v513
  v514.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v107 : BitVec 1 := Scalar.cmpi .ne v2 c29_i32
  let v108 : BitVec 32 := Scalar.extui v107
  let c0_i32_47 : BitVec 32 := 0#32
  let v109 : BitVec 1 := Scalar.cmpi .ne v108 c0_i32_47
  v109

def k0_dev30 : Nat :=
  let c0_i32_317 : BitVec 32 := 0#32
  let c29_i32_315 : BitVec 32 := 29#32
  let c1_i32_316 : BitVec 32 := 1#32
  let v513 : BitVec 32 := Scalar.muli c29_i32_315 c1_i32_316
  let v514 : BitVec 32 := Scalar.addi c0_i32_317 v513
  v514.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v110 : BitVec 1 := Scalar.cmpi .ne v2 c30_i32
  let v111 : BitVec 32 := Scalar.extui v110
  let c0_i32_48 : BitVec 32 := 0#32
  let v112 : BitVec 1 := Scalar.cmpi .ne v111 c0_i32_48
  v112

def k0_dev31 : Nat :=
  let c0_i32_317 : BitVec 32 := 0#32
  let c30_i32_315 : BitVec 32 := 30#32
  let c1_i32_316 : BitVec 32 := 1#32
  let v513 : BitVec 32 := Scalar.muli c30_i32_315 c1_i32_316
  let v514 : BitVec 32 := Scalar.addi c0_i32_317 v513
  v514.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v113 : BitVec 1 := Scalar.cmpi .ne v2 c31_i32
  let v114 : BitVec 32 := Scalar.extui v113
  let c0_i32_49 : BitVec 32 := 0#32
  let v115 : BitVec 1 := Scalar.cmpi .ne v114 c0_i32_49
  v115

def k0_dev32 : Nat :=
  let c0_i32_317 : BitVec 32 := 0#32
  let c31_i32_315 : BitVec 32 := 31#32
  let c1_i32_316 : BitVec 32 := 1#32
  let v513 : BitVec 32 := Scalar.muli c31_i32_315 c1_i32_316
  let v514 : BitVec 32 := Scalar.addi c0_i32_317 v513
  v514.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_93 : BitVec 32 := 0#32
  let v169 : BitVec 1 := Scalar.cmpi .ne v2 c0_i32_93
  let v170 : BitVec 32 := Scalar.extui v169
  let c0_i32_94 : BitVec 32 := 0#32
  let v171 : BitVec 1 := Scalar.cmpi .ne v170 c0_i32_94
  v171

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev33 : Nat :=
  let c0_i32_317 : BitVec 32 := 0#32
  let c0_i32_315 : BitVec 32 := 0#32
  let c1_i32_316 : BitVec 32 := 1#32
  let v513 : BitVec 32 := Scalar.muli c0_i32_315 c1_i32_316
  let v514 : BitVec 32 := Scalar.addi c0_i32_317 v513
  v514.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_99 : BitVec 32 := 1#32
  let v179 : BitVec 1 := Scalar.cmpi .ne v2 c1_i32_99
  let v180 : BitVec 32 := Scalar.extui v179
  let c0_i32_100 : BitVec 32 := 0#32
  let v181 : BitVec 1 := Scalar.cmpi .ne v180 c0_i32_100
  v181

def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev34 : Nat :=
  let c0_i32_317 : BitVec 32 := 0#32
  let c1_i32_315 : BitVec 32 := 1#32
  let c1_i32_316 : BitVec 32 := 1#32
  let v513 : BitVec 32 := Scalar.muli c1_i32_315 c1_i32_316
  let v514 : BitVec 32 := Scalar.addi c0_i32_317 v513
  v514.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_105 : BitVec 32 := 2#32
  let v189 : BitVec 1 := Scalar.cmpi .ne v2 c2_i32_105
  let v190 : BitVec 32 := Scalar.extui v189
  let c0_i32_106 : BitVec 32 := 0#32
  let v191 : BitVec 1 := Scalar.cmpi .ne v190 c0_i32_106
  v191

def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev35 : Nat :=
  let c0_i32_317 : BitVec 32 := 0#32
  let c2_i32_315 : BitVec 32 := 2#32
  let c1_i32_316 : BitVec 32 := 1#32
  let v513 : BitVec 32 := Scalar.muli c2_i32_315 c1_i32_316
  let v514 : BitVec 32 := Scalar.addi c0_i32_317 v513
  v514.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_111 : BitVec 32 := 3#32
  let v199 : BitVec 1 := Scalar.cmpi .ne v2 c3_i32_111
  let v200 : BitVec 32 := Scalar.extui v199
  let c0_i32_112 : BitVec 32 := 0#32
  let v201 : BitVec 1 := Scalar.cmpi .ne v200 c0_i32_112
  v201

def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev36 : Nat :=
  let c0_i32_317 : BitVec 32 := 0#32
  let c3_i32_315 : BitVec 32 := 3#32
  let c1_i32_316 : BitVec 32 := 1#32
  let v513 : BitVec 32 := Scalar.muli c3_i32_315 c1_i32_316
  let v514 : BitVec 32 := Scalar.addi c0_i32_317 v513
  v514.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_117 : BitVec 32 := 4#32
  let v209 : BitVec 1 := Scalar.cmpi .ne v2 c4_i32_117
  let v210 : BitVec 32 := Scalar.extui v209
  let c0_i32_118 : BitVec 32 := 0#32
  let v211 : BitVec 1 := Scalar.cmpi .ne v210 c0_i32_118
  v211

def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev37 : Nat :=
  let c0_i32_317 : BitVec 32 := 0#32
  let c4_i32_315 : BitVec 32 := 4#32
  let c1_i32_316 : BitVec 32 := 1#32
  let v513 : BitVec 32 := Scalar.muli c4_i32_315 c1_i32_316
  let v514 : BitVec 32 := Scalar.addi c0_i32_317 v513
  v514.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_123 : BitVec 32 := 5#32
  let v219 : BitVec 1 := Scalar.cmpi .ne v2 c5_i32_123
  let v220 : BitVec 32 := Scalar.extui v219
  let c0_i32_124 : BitVec 32 := 0#32
  let v221 : BitVec 1 := Scalar.cmpi .ne v220 c0_i32_124
  v221

def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev38 : Nat :=
  let c0_i32_317 : BitVec 32 := 0#32
  let c5_i32_315 : BitVec 32 := 5#32
  let c1_i32_316 : BitVec 32 := 1#32
  let v513 : BitVec 32 := Scalar.muli c5_i32_315 c1_i32_316
  let v514 : BitVec 32 := Scalar.addi c0_i32_317 v513
  v514.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_129 : BitVec 32 := 6#32
  let v229 : BitVec 1 := Scalar.cmpi .ne v2 c6_i32_129
  let v230 : BitVec 32 := Scalar.extui v229
  let c0_i32_130 : BitVec 32 := 0#32
  let v231 : BitVec 1 := Scalar.cmpi .ne v230 c0_i32_130
  v231

def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev39 : Nat :=
  let c0_i32_317 : BitVec 32 := 0#32
  let c6_i32_315 : BitVec 32 := 6#32
  let c1_i32_316 : BitVec 32 := 1#32
  let v513 : BitVec 32 := Scalar.muli c6_i32_315 c1_i32_316
  let v514 : BitVec 32 := Scalar.addi c0_i32_317 v513
  v514.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_135 : BitVec 32 := 7#32
  let v239 : BitVec 1 := Scalar.cmpi .ne v2 c7_i32_135
  let v240 : BitVec 32 := Scalar.extui v239
  let c0_i32_136 : BitVec 32 := 0#32
  let v241 : BitVec 1 := Scalar.cmpi .ne v240 c0_i32_136
  v241

def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev40 : Nat :=
  let c0_i32_317 : BitVec 32 := 0#32
  let c7_i32_315 : BitVec 32 := 7#32
  let c1_i32_316 : BitVec 32 := 1#32
  let v513 : BitVec 32 := Scalar.muli c7_i32_315 c1_i32_316
  let v514 : BitVec 32 := Scalar.addi c0_i32_317 v513
  v514.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v249 : BitVec 1 := Scalar.cmpi .ne v2 c8_i32_141
  let v250 : BitVec 32 := Scalar.extui v249
  let c0_i32_142 : BitVec 32 := 0#32
  let v251 : BitVec 1 := Scalar.cmpi .ne v250 c0_i32_142
  v251

def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev41 : Nat :=
  let c0_i32_317 : BitVec 32 := 0#32
  let c8_i32_315 : BitVec 32 := 8#32
  let c1_i32_316 : BitVec 32 := 1#32
  let v513 : BitVec 32 := Scalar.muli c8_i32_315 c1_i32_316
  let v514 : BitVec 32 := Scalar.addi c0_i32_317 v513
  v514.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_147 : BitVec 32 := 9#32
  let v259 : BitVec 1 := Scalar.cmpi .ne v2 c9_i32_147
  let v260 : BitVec 32 := Scalar.extui v259
  let c0_i32_148 : BitVec 32 := 0#32
  let v261 : BitVec 1 := Scalar.cmpi .ne v260 c0_i32_148
  v261

def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev42 : Nat :=
  let c0_i32_317 : BitVec 32 := 0#32
  let c9_i32_315 : BitVec 32 := 9#32
  let c1_i32_316 : BitVec 32 := 1#32
  let v513 : BitVec 32 := Scalar.muli c9_i32_315 c1_i32_316
  let v514 : BitVec 32 := Scalar.addi c0_i32_317 v513
  v514.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_153 : BitVec 32 := 10#32
  let v269 : BitVec 1 := Scalar.cmpi .ne v2 c10_i32_153
  let v270 : BitVec 32 := Scalar.extui v269
  let c0_i32_154 : BitVec 32 := 0#32
  let v271 : BitVec 1 := Scalar.cmpi .ne v270 c0_i32_154
  v271

def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev43 : Nat :=
  let c0_i32_317 : BitVec 32 := 0#32
  let c10_i32_315 : BitVec 32 := 10#32
  let c1_i32_316 : BitVec 32 := 1#32
  let v513 : BitVec 32 := Scalar.muli c10_i32_315 c1_i32_316
  let v514 : BitVec 32 := Scalar.addi c0_i32_317 v513
  v514.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_159 : BitVec 32 := 11#32
  let v279 : BitVec 1 := Scalar.cmpi .ne v2 c11_i32_159
  let v280 : BitVec 32 := Scalar.extui v279
  let c0_i32_160 : BitVec 32 := 0#32
  let v281 : BitVec 1 := Scalar.cmpi .ne v280 c0_i32_160
  v281

def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev44 : Nat :=
  let c0_i32_317 : BitVec 32 := 0#32
  let c11_i32_315 : BitVec 32 := 11#32
  let c1_i32_316 : BitVec 32 := 1#32
  let v513 : BitVec 32 := Scalar.muli c11_i32_315 c1_i32_316
  let v514 : BitVec 32 := Scalar.addi c0_i32_317 v513
  v514.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_165 : BitVec 32 := 12#32
  let v289 : BitVec 1 := Scalar.cmpi .ne v2 c12_i32_165
  let v290 : BitVec 32 := Scalar.extui v289
  let c0_i32_166 : BitVec 32 := 0#32
  let v291 : BitVec 1 := Scalar.cmpi .ne v290 c0_i32_166
  v291

def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev45 : Nat :=
  let c0_i32_317 : BitVec 32 := 0#32
  let c12_i32_315 : BitVec 32 := 12#32
  let c1_i32_316 : BitVec 32 := 1#32
  let v513 : BitVec 32 := Scalar.muli c12_i32_315 c1_i32_316
  let v514 : BitVec 32 := Scalar.addi c0_i32_317 v513
  v514.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_171 : BitVec 32 := 13#32
  let v299 : BitVec 1 := Scalar.cmpi .ne v2 c13_i32_171
  let v300 : BitVec 32 := Scalar.extui v299
  let c0_i32_172 : BitVec 32 := 0#32
  let v301 : BitVec 1 := Scalar.cmpi .ne v300 c0_i32_172
  v301

def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev46 : Nat :=
  let c0_i32_317 : BitVec 32 := 0#32
  let c13_i32_315 : BitVec 32 := 13#32
  let c1_i32_316 : BitVec 32 := 1#32
  let v513 : BitVec 32 := Scalar.muli c13_i32_315 c1_i32_316
  let v514 : BitVec 32 := Scalar.addi c0_i32_317 v513
  v514.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_177 : BitVec 32 := 14#32
  let v309 : BitVec 1 := Scalar.cmpi .ne v2 c14_i32_177
  let v310 : BitVec 32 := Scalar.extui v309
  let c0_i32_178 : BitVec 32 := 0#32
  let v311 : BitVec 1 := Scalar.cmpi .ne v310 c0_i32_178
  v311

def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev47 : Nat :=
  let c0_i32_317 : BitVec 32 := 0#32
  let c14_i32_315 : BitVec 32 := 14#32
  let c1_i32_316 : BitVec 32 := 1#32
  let v513 : BitVec 32 := Scalar.muli c14_i32_315 c1_i32_316
  let v514 : BitVec 32 := Scalar.addi c0_i32_317 v513
  v514.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_183 : BitVec 32 := 15#32
  let v319 : BitVec 1 := Scalar.cmpi .ne v2 c15_i32_183
  let v320 : BitVec 32 := Scalar.extui v319
  let c0_i32_184 : BitVec 32 := 0#32
  let v321 : BitVec 1 := Scalar.cmpi .ne v320 c0_i32_184
  v321

def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev48 : Nat :=
  let c0_i32_317 : BitVec 32 := 0#32
  let c15_i32_315 : BitVec 32 := 15#32
  let c1_i32_316 : BitVec 32 := 1#32
  let v513 : BitVec 32 := Scalar.muli c15_i32_315 c1_i32_316
  let v514 : BitVec 32 := Scalar.addi c0_i32_317 v513
  v514.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_198 : BitVec 32 := 16#32
  let v347 : BitVec 1 := Scalar.cmpi .ne v2 c16_i32_198
  let v348 : BitVec 32 := Scalar.extui v347
  let c0_i32_199 : BitVec 32 := 0#32
  let v349 : BitVec 1 := Scalar.cmpi .ne v348 c0_i32_199
  v349

def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev49 : Nat :=
  let c0_i32_317 : BitVec 32 := 0#32
  let c16_i32_315 : BitVec 32 := 16#32
  let c1_i32_316 : BitVec 32 := 1#32
  let v513 : BitVec 32 := Scalar.muli c16_i32_315 c1_i32_316
  let v514 : BitVec 32 := Scalar.addi c0_i32_317 v513
  v514.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_204 : BitVec 32 := 17#32
  let v357 : BitVec 1 := Scalar.cmpi .ne v2 c17_i32_204
  let v358 : BitVec 32 := Scalar.extui v357
  let c0_i32_205 : BitVec 32 := 0#32
  let v359 : BitVec 1 := Scalar.cmpi .ne v358 c0_i32_205
  v359

def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev50 : Nat :=
  let c0_i32_317 : BitVec 32 := 0#32
  let c17_i32_315 : BitVec 32 := 17#32
  let c1_i32_316 : BitVec 32 := 1#32
  let v513 : BitVec 32 := Scalar.muli c17_i32_315 c1_i32_316
  let v514 : BitVec 32 := Scalar.addi c0_i32_317 v513
  v514.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_210 : BitVec 32 := 18#32
  let v367 : BitVec 1 := Scalar.cmpi .ne v2 c18_i32_210
  let v368 : BitVec 32 := Scalar.extui v367
  let c0_i32_211 : BitVec 32 := 0#32
  let v369 : BitVec 1 := Scalar.cmpi .ne v368 c0_i32_211
  v369

def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev51 : Nat :=
  let c0_i32_317 : BitVec 32 := 0#32
  let c18_i32_315 : BitVec 32 := 18#32
  let c1_i32_316 : BitVec 32 := 1#32
  let v513 : BitVec 32 := Scalar.muli c18_i32_315 c1_i32_316
  let v514 : BitVec 32 := Scalar.addi c0_i32_317 v513
  v514.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_216 : BitVec 32 := 19#32
  let v377 : BitVec 1 := Scalar.cmpi .ne v2 c19_i32_216
  let v378 : BitVec 32 := Scalar.extui v377
  let c0_i32_217 : BitVec 32 := 0#32
  let v379 : BitVec 1 := Scalar.cmpi .ne v378 c0_i32_217
  v379

def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev52 : Nat :=
  let c0_i32_317 : BitVec 32 := 0#32
  let c19_i32_315 : BitVec 32 := 19#32
  let c1_i32_316 : BitVec 32 := 1#32
  let v513 : BitVec 32 := Scalar.muli c19_i32_315 c1_i32_316
  let v514 : BitVec 32 := Scalar.addi c0_i32_317 v513
  v514.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_222 : BitVec 32 := 20#32
  let v387 : BitVec 1 := Scalar.cmpi .ne v2 c20_i32_222
  let v388 : BitVec 32 := Scalar.extui v387
  let c0_i32_223 : BitVec 32 := 0#32
  let v389 : BitVec 1 := Scalar.cmpi .ne v388 c0_i32_223
  v389

def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev53 : Nat :=
  let c0_i32_317 : BitVec 32 := 0#32
  let c20_i32_315 : BitVec 32 := 20#32
  let c1_i32_316 : BitVec 32 := 1#32
  let v513 : BitVec 32 := Scalar.muli c20_i32_315 c1_i32_316
  let v514 : BitVec 32 := Scalar.addi c0_i32_317 v513
  v514.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_228 : BitVec 32 := 21#32
  let v397 : BitVec 1 := Scalar.cmpi .ne v2 c21_i32_228
  let v398 : BitVec 32 := Scalar.extui v397
  let c0_i32_229 : BitVec 32 := 0#32
  let v399 : BitVec 1 := Scalar.cmpi .ne v398 c0_i32_229
  v399

def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev54 : Nat :=
  let c0_i32_317 : BitVec 32 := 0#32
  let c21_i32_315 : BitVec 32 := 21#32
  let c1_i32_316 : BitVec 32 := 1#32
  let v513 : BitVec 32 := Scalar.muli c21_i32_315 c1_i32_316
  let v514 : BitVec 32 := Scalar.addi c0_i32_317 v513
  v514.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_234 : BitVec 32 := 22#32
  let v407 : BitVec 1 := Scalar.cmpi .ne v2 c22_i32_234
  let v408 : BitVec 32 := Scalar.extui v407
  let c0_i32_235 : BitVec 32 := 0#32
  let v409 : BitVec 1 := Scalar.cmpi .ne v408 c0_i32_235
  v409

def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev55 : Nat :=
  let c0_i32_317 : BitVec 32 := 0#32
  let c22_i32_315 : BitVec 32 := 22#32
  let c1_i32_316 : BitVec 32 := 1#32
  let v513 : BitVec 32 := Scalar.muli c22_i32_315 c1_i32_316
  let v514 : BitVec 32 := Scalar.addi c0_i32_317 v513
  v514.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_240 : BitVec 32 := 23#32
  let v417 : BitVec 1 := Scalar.cmpi .ne v2 c23_i32_240
  let v418 : BitVec 32 := Scalar.extui v417
  let c0_i32_241 : BitVec 32 := 0#32
  let v419 : BitVec 1 := Scalar.cmpi .ne v418 c0_i32_241
  v419

def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev56 : Nat :=
  let c0_i32_317 : BitVec 32 := 0#32
  let c23_i32_315 : BitVec 32 := 23#32
  let c1_i32_316 : BitVec 32 := 1#32
  let v513 : BitVec 32 := Scalar.muli c23_i32_315 c1_i32_316
  let v514 : BitVec 32 := Scalar.addi c0_i32_317 v513
  v514.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_246 : BitVec 32 := 24#32
  let v427 : BitVec 1 := Scalar.cmpi .ne v2 c24_i32_246
  let v428 : BitVec 32 := Scalar.extui v427
  let c0_i32_247 : BitVec 32 := 0#32
  let v429 : BitVec 1 := Scalar.cmpi .ne v428 c0_i32_247
  v429

def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev57 : Nat :=
  let c0_i32_317 : BitVec 32 := 0#32
  let c24_i32_315 : BitVec 32 := 24#32
  let c1_i32_316 : BitVec 32 := 1#32
  let v513 : BitVec 32 := Scalar.muli c24_i32_315 c1_i32_316
  let v514 : BitVec 32 := Scalar.addi c0_i32_317 v513
  v514.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_252 : BitVec 32 := 25#32
  let v437 : BitVec 1 := Scalar.cmpi .ne v2 c25_i32_252
  let v438 : BitVec 32 := Scalar.extui v437
  let c0_i32_253 : BitVec 32 := 0#32
  let v439 : BitVec 1 := Scalar.cmpi .ne v438 c0_i32_253
  v439

def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev58 : Nat :=
  let c0_i32_317 : BitVec 32 := 0#32
  let c25_i32_315 : BitVec 32 := 25#32
  let c1_i32_316 : BitVec 32 := 1#32
  let v513 : BitVec 32 := Scalar.muli c25_i32_315 c1_i32_316
  let v514 : BitVec 32 := Scalar.addi c0_i32_317 v513
  v514.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_258 : BitVec 32 := 26#32
  let v447 : BitVec 1 := Scalar.cmpi .ne v2 c26_i32_258
  let v448 : BitVec 32 := Scalar.extui v447
  let c0_i32_259 : BitVec 32 := 0#32
  let v449 : BitVec 1 := Scalar.cmpi .ne v448 c0_i32_259
  v449

def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev59 : Nat :=
  let c0_i32_317 : BitVec 32 := 0#32
  let c26_i32_315 : BitVec 32 := 26#32
  let c1_i32_316 : BitVec 32 := 1#32
  let v513 : BitVec 32 := Scalar.muli c26_i32_315 c1_i32_316
  let v514 : BitVec 32 := Scalar.addi c0_i32_317 v513
  v514.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_264 : BitVec 32 := 27#32
  let v457 : BitVec 1 := Scalar.cmpi .ne v2 c27_i32_264
  let v458 : BitVec 32 := Scalar.extui v457
  let c0_i32_265 : BitVec 32 := 0#32
  let v459 : BitVec 1 := Scalar.cmpi .ne v458 c0_i32_265
  v459

def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev60 : Nat :=
  let c0_i32_317 : BitVec 32 := 0#32
  let c27_i32_315 : BitVec 32 := 27#32
  let c1_i32_316 : BitVec 32 := 1#32
  let v513 : BitVec 32 := Scalar.muli c27_i32_315 c1_i32_316
  let v514 : BitVec 32 := Scalar.addi c0_i32_317 v513
  v514.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_270 : BitVec 32 := 28#32
  let v467 : BitVec 1 := Scalar.cmpi .ne v2 c28_i32_270
  let v468 : BitVec 32 := Scalar.extui v467
  let c0_i32_271 : BitVec 32 := 0#32
  let v469 : BitVec 1 := Scalar.cmpi .ne v468 c0_i32_271
  v469

def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev61 : Nat :=
  let c0_i32_317 : BitVec 32 := 0#32
  let c28_i32_315 : BitVec 32 := 28#32
  let c1_i32_316 : BitVec 32 := 1#32
  let v513 : BitVec 32 := Scalar.muli c28_i32_315 c1_i32_316
  let v514 : BitVec 32 := Scalar.addi c0_i32_317 v513
  v514.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_276 : BitVec 32 := 29#32
  let v477 : BitVec 1 := Scalar.cmpi .ne v2 c29_i32_276
  let v478 : BitVec 32 := Scalar.extui v477
  let c0_i32_277 : BitVec 32 := 0#32
  let v479 : BitVec 1 := Scalar.cmpi .ne v478 c0_i32_277
  v479

def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev62 : Nat :=
  let c0_i32_317 : BitVec 32 := 0#32
  let c29_i32_315 : BitVec 32 := 29#32
  let c1_i32_316 : BitVec 32 := 1#32
  let v513 : BitVec 32 := Scalar.muli c29_i32_315 c1_i32_316
  let v514 : BitVec 32 := Scalar.addi c0_i32_317 v513
  v514.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_282 : BitVec 32 := 30#32
  let v487 : BitVec 1 := Scalar.cmpi .ne v2 c30_i32_282
  let v488 : BitVec 32 := Scalar.extui v487
  let c0_i32_283 : BitVec 32 := 0#32
  let v489 : BitVec 1 := Scalar.cmpi .ne v488 c0_i32_283
  v489

def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev63 : Nat :=
  let c0_i32_317 : BitVec 32 := 0#32
  let c30_i32_315 : BitVec 32 := 30#32
  let c1_i32_316 : BitVec 32 := 1#32
  let v513 : BitVec 32 := Scalar.muli c30_i32_315 c1_i32_316
  let v514 : BitVec 32 := Scalar.addi c0_i32_317 v513
  v514.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_288 : BitVec 32 := 31#32
  let v497 : BitVec 1 := Scalar.cmpi .ne v2 c31_i32_288
  let v498 : BitVec 32 := Scalar.extui v497
  let c0_i32_289 : BitVec 32 := 0#32
  let v499 : BitVec 1 := Scalar.cmpi .ne v498 c0_i32_289
  v499

def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_318 : BitVec 32 := 0#32
  let c0_i32_319 : BitVec 32 := 0#32
  ![v2.toNat, 0, 0]
def k0_dev64 : Nat :=
  let c0_i32_317 : BitVec 32 := 0#32
  let c31_i32_315 : BitVec 32 := 31#32
  let c1_i32_316 : BitVec 32 := 1#32
  let v513 : BitVec 32 := Scalar.muli c31_i32_315 c1_i32_316
  let v514 : BitVec 32 := Scalar.addi c0_i32_317 v513
  v514.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Slots.lean ====
module
public import proofs.«01_k».proof.Proof.Gen.KernelIdeal.Skeleton
public import Idealize.ShloMosaic.Lib.Pipeline.Kit
public import Idealize.ShloMosaic.Lib.ValueLayout
public import Idealize.ShloMosaic.Lib.ViewIndex
public import Idealize.ShloMosaic.Lib.Tactic

@[expose] public section
set_option maxRecDepth 65536

namespace Cert.KernelIdeal.Gen
open Idealize.ShloMosaic
open Idealize.ShloMosaic.TcCoe
open Idealize.SL
open Idealize.SL.Sem
open Idealize.ShloMosaic.ValueIdx

/-! The slots of the two exchange buffers and the four row blocks of the weight buffer. -/

/-- The buffer of results to be sent, whole. -/
abbrev yM : Memref sig .tc .vmem S32x64x64 .bf16 := Memref.whole cc0_scratch1
/-- The buffer of results received, whole. -/
abbrev rM : Memref sig .tc .vmem S32x64x64 .bf16 := Memref.whole cc0_scratch2
/-- The copy of the weights, whole. -/
abbrev wM : Memref sig .tc .vmem S2048x2048 .f32 := Memref.whole cc0_scratch0
/-- The weights argument, whole. -/
abbrev aM : Memref sig .tc .hbm S2048x2048 .f32 := Memref.whole main_arg1
/-- The staged block of the first argument, whole. -/
abbrev xM : Memref sig .tc .vmem S64x2048 .f32 := Memref.whole cc0_stg0_0

/-- One slot of an exchange buffer, as an array of two axes. -/
abbrev slotM (M : Memref sig .tc .vmem S32x64x64 .bf16) (off : Fin 3 → ℕ)
    (h : ∀ a, off a + S1x64x64.size a ≤ S32x64x64.size a) : Memref sig .tc .vmem S64x64 .bf16 :=
  (M.slice (Rect.unit (s := S32x64x64) off S1x64x64.size h) (fun _ => rfl)).squeeze S64x64
    squeezes_S1x64x64_S64x64

/-- One block of 512 rows of a weight array. -/
abbrev rowM {sp : Space} (M : Memref sig .tc sp S2048x2048 .f32) (off : Fin 2 → ℕ)
    (h : ∀ a, off a + S512x2048.size a ≤ S2048x2048.size a) : Memref sig .tc sp S512x2048 .f32 :=
  M.slice (Rect.unit (s := S2048x2048) off S512x2048.size h) (fun _ => rfl)

/-- The elements of slot `j`. -/
def slotSet (j : Fin 32) : Finset S32x64x64.Idx := Finset.univ.filter fun i => (i 0).val = j.val

/-- The elements of row block `k`. -/
def rowSet (k : Fin 4) : Finset S2048x2048.Idx :=
  Finset.univ.filter fun i => (i 0).val / 512 = k.val

/-- An element is in slot `j` when its first coordinate is `j`. -/
theorem mem_slotSet (j : Fin 32) (i : S32x64x64.Idx) : i ∈ slotSet j ↔ (i 0).val = j.val := by
  simp [slotSet]

/-- An element is in row block `k` when its row is. -/
theorem mem_rowSet (k : Fin 4) (i : S2048x2048.Idx) : i ∈ rowSet k ↔ (i 0).val / 512 = k.val := by
  simp [rowSet]

/-- A rectangle of one slot's extent at slot `j` covers that slot. -/
theorem slot_rect_set (j : Fin 32) (off : Fin 3 → ℕ) (hoff : off = ![j.val, 0, 0])
    (h : ∀ a, off a + S1x64x64.size a ≤ S32x64x64.size a) :
    (Rect.unit (s := S32x64x64) off S1x64x64.size h).set = slotSet j := by
  subst hoff
  ext i
  rw [Rect.mem_set_unit, mem_slotSet]
  constructor
  · intro hi
    have h0 : j.val ≤ (i 0).val ∧ (i 0).val < j.val + 1 := hi 0
    omega
  · intro hi a
    match a with
    | ⟨0, _⟩ => exact (show j.val ≤ (i 0).val ∧ (i 0).val < j.val + 1 from by omega)
    | ⟨1, _⟩ => exact ⟨Nat.zero_le _, by have : (i 1).val < 64 := (i 1).isLt; show (i 1).val < 0 + 64; omega⟩
    | ⟨2, _⟩ => exact ⟨Nat.zero_le _, by have : (i 2).val < 64 := (i 2).isLt; show (i 2).val < 0 + 64; omega⟩

/-- A rectangle of one row block's extent covers that row block. -/
theorem row_rect_set (k : Fin 4) (off : Fin 2 → ℕ) (hoff : off = ![512 * k.val, 0])
    (h : ∀ a, off a + S512x2048.size a ≤ S2048x2048.size a) :
    (Rect.unit (s := S2048x2048) off S512x2048.size h).set = rowSet k := by
  subst hoff
  ext i
  rw [Rect.mem_set_unit, mem_rowSet]
  constructor
  · intro hi
    have h0 : 512 * k.val ≤ (i 0).val ∧ (i 0).val < 512 * k.val + 512 := hi 0
    omega
  · intro hi a
    match a with
    | ⟨0, _⟩ => exact (show 512 * k.val ≤ (i 0).val ∧ (i 0).val < 512 * k.val + 512 from by omega)
    | ⟨1, _⟩ => exact ⟨Nat.zero_le _, by have : (i 1).val < 2048 := (i 1).isLt; show (i 1).val < 0 + 2048; omega⟩

/-- The slots cover their buffer. -/
theorem slots_cover : Finset.univ.biUnion slotSet = (Finset.univ : Finset S32x64x64.Idx) := by
  ext i
  simp only [Finset.mem_biUnion, Finset.mem_univ, true_and, iff_true]
  exact ⟨i 0, (mem_slotSet _ _).2 rfl⟩

/-- Different slots share no element. -/
theorem slots_disjoint : ∀ a ∈ (Finset.univ : Finset (Fin 32)), ∀ b ∈ (Finset.univ : Finset (Fin 32)),
    a ≠ b → Disjoint (slotSet a) (slotSet b) := by
  intro a _ b _ hab
  rw [Finset.disjoint_left]
  intro i ha hb
  exact hab (Fin.ext (((mem_slotSet a i).1 ha).symm.trans ((mem_slotSet b i).1 hb)))

/-- The row blocks cover the weights. -/
theorem rows_cover : Finset.univ.biUnion rowSet = (Finset.univ : Finset S2048x2048.Idx) := by
  ext i
  simp only [Finset.mem_biUnion, Finset.mem_univ, true_and, iff_true]
  have hi : (i 0).val < 2048 := (i 0).isLt
  exact ⟨⟨(i 0).val / 512, by omega⟩, (mem_rowSet _ _).2 rfl⟩

/-- Different row blocks share no element. -/
theorem rows_disjoint : ∀ a ∈ (Finset.univ : Finset (Fin 4)), ∀ b ∈ (Finset.univ : Finset (Fin 4)),
    a ≠ b → Disjoint (rowSet a) (rowSet b) := by
  intro a _ b _ hab
  rw [Finset.disjoint_left]
  intro i ha hb
  exact hab (Fin.ext (((mem_rowSet a i).1 ha).symm.trans ((mem_rowSet b i).1 hb)))

/-- Where element `x` of a slot lies in the buffer. -/
theorem slot_rect_emb (j : Fin 32) (off : Fin 3 → ℕ) (hoff : off = ![j.val, 0, 0])
    (h : ∀ a, off a + S1x64x64.size a ≤ S32x64x64.size a) (x : S1x64x64.Idx) :
    (Rect.unit (s := S32x64x64) off S1x64x64.size h).emb x = ix3 j (x 1) (x 2) := by
  subst hoff
  have hx : (x 0).val < 1 := (x 0).isLt
  refine Shape.idx3_ext ?_ ?_ ?_
  · show j.val + 1 * (x 0).val = j.val; omega
  · show 0 + 1 * (x 1).val = (x 1).val; omega
  · show 0 + 1 * (x 2).val = (x 2).val; omega

/-- Element `x` of the squeezed slot is element `(0, x)` of the slot. -/
theorem squeeze_ix (x : S64x64.Idx) :
    Shape.reshapeEquiv (squeezes_S1x64x64_S64x64.numel_eq) x = (ix3 0 (x 0) (x 1) : S1x64x64.Idx) := by
  conv_lhs => rw [eq_ix2 x]
  exact reshapeEquiv_ix2_1ab _ _ _

end Cert.KernelIdeal.Gen
-- ==== Proof.Contents.lean ====
module
public import proofs.«01_k».proof.Proof.Slots

@[expose] public section
set_option maxRecDepth 65536

noncomputable section

namespace Cert.KernelIdeal.Gen
open Idealize.ShloMosaic
open Idealize.ShloMosaic.TcCoe
open Idealize.SL
open Idealize.SL.Sem
open Idealize.ShloMosaic.ValueIdx

/-! What the buffers hold during a run: the staged block, the weights, the tiles each device
computes, the tiles it receives, and its result. -/

variable {F : FTy → Type} [FloatOps F]
variable (m : (ℓ : Loc nD τ sig) → Buf (Elt F) ℓ)

/-- The block of the first argument staged on device `c`. -/
def xstg (c : Dev nD) : (cc0_stg0_0 : Ref sig .tc).ty.Contents (Elt F) :=
  (win0_0.blk (0 : Fin 1)).view.read (Elt F) (m ((c : Thread nD τ).loc main_arg0))

/-- The weights of device `c`. -/
def wbuf (c : Dev nD) : S2048x2048.Idx → Elt F .f32 := m ((c : Thread nD τ).loc main_arg1)

/-- A rectangle of 512 columns of the staged block. -/
def xPart (c : Dev nD) (off : Fin 2 → ℕ) (h : ∀ a, off a + S64x512.size a ≤ S64x2048.size a) :
    Vec F S64x512 .f32 :=
  xM.view.readAt (Elt F) (Rect.unit (s := S64x2048) off S64x512.size h).toLoadRect (xstg m c)

/-- A rectangle of 512 rows and 1024 columns of the weights. -/
def wPart (c : Dev nD) (off : Fin 2 → ℕ) (h : ∀ a, off a + S512x1024.size a ≤ S2048x2048.size a) :
    Vec F S512x1024 .f32 :=
  wM.view.readAt (Elt F) (Rect.unit (s := S2048x2048) off S512x1024.size h).toLoadRect (wbuf m c)

/-- The sum of the first three of the four partial products for the left half of the columns. -/
def yaSum (c : Dev nD) : FVec F S64x1024 .f32 :=
  k0_pay2 (xPart m c ![0, 0] inb_S64x2048_S64x512_0_0) (wPart m c ![0, 0] inb_S2048x2048_S512x1024_0_0)
    (xPart m c ![0, 512] inb_S64x2048_S64x512_0_512) (wPart m c ![512, 0] inb_S2048x2048_S512x1024_512_0)
    (xPart m c ![0, 1024] inb_S64x2048_S64x512_0_1024) (wPart m c ![1024, 0] inb_S2048x2048_S512x1024_1024_0)

/-- The left half of the columns of device `c`'s activations. -/
def yaOf (c : Dev nD) : FVec F S64x1024 .bf16 :=
  k0_pay3 (yaSum m c) (xPart m c ![0, 1536] inb_S64x2048_S64x512_0_1536)
    (wPart m c ![1536, 0] inb_S2048x2048_S512x1024_1536_0)

/-- The whole staged block as one load reads it. -/
def xWhole (c : Dev nD) : Vec F S64x2048 .f32 :=
  xM.view.readAt (Elt F) (Rect.unit (s := S64x2048) ![0, 0] S64x2048.size inb_S64x2048_S64x2048_0_0).toLoadRect
    (xstg m c)

/-- The right half of the columns of the weights. -/
def wRight (c : Dev nD) : Vec F S2048x1024 .f32 :=
  wM.view.readAt (Elt F)
    (Rect.unit (s := S2048x2048) ![0, 1024] S2048x1024.size inb_S2048x2048_S2048x1024_0_1024).toLoadRect (wbuf m c)

/-- The right half of the columns of device `c`'s activations. -/
def ybOf (c : Dev nD) : FVec F S64x1024 .bf16 := k0_pay41 (xWhole m c) (wRight m c)

/-- The two halves of the activations: `false` the left one, `true` the right one. -/
def yHalf (c : Dev nD) (b : Bool) : FVec F S64x1024 .bf16 := if b then ybOf m c else yaOf m c

/-- The buffer of tiles of device `c`: tile `j` is columns `64 j` to `64 j + 63` of its activations. -/
def Yc (c : Dev nD) : S32x64x64.Idx → Elt F .bf16 := fun i =>
  yHalf m c (decide (16 ≤ (i 0).val))
    (ix2 ⟨(i 1).val, (i 1).isLt⟩ ⟨64 * ((i 0).val % 16) + (i 2).val, by
      have : (i 2).val < 64 := (i 2).isLt
      omega⟩)

/-- The buffer of received tiles of device `c`: slot `d` holds tile `c` of device `d`. -/
def Rc (c : Dev nD) : S32x64x64.Idx → Elt F .bf16 := fun i =>
  Yc m ⟨(i 0).val, (i 0).isLt⟩ (ix3 (⟨c.val, c.isLt⟩ : Fin 32) ⟨(i 1).val, (i 1).isLt⟩ ⟨(i 2).val, (i 2).isLt⟩)

/-- The result of device `c`. -/
def outAt (c : Dev nD) : (cc0_stg1_0 : Ref sig .tc).ty.Contents (Elt F) := k0_pay1 (Rc m c)

end Cert.KernelIdeal.Gen
-- ==== Proof.Protocol.lean ====
module
public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The protocol of the exchange. Each device has seven semaphore cells: its barrier counter, the
counters of its sends and of its receives, and one per row block of the weights it fetches. Each is
used for one round. The barrier, send and receive cells have one duty per other device; a fetch cell
has one, its own device's. -/

variable {F : FTy → Type} [FloatOps F]

/-- The rounds of the exchange, one duty name per device. -/
abbrev UX : Type := URounds (GSem nD τ sig) (Dev nD)
/-- The staging's rounds beside the exchange's. -/
abbrev UU : Type := UR sig nD τ × UX

local notation "𝕄" => MT nD τ sig Unit (Elt F) ℕ UU ℕ

/-- Where the staging's rounds are. -/
abbrev EP : Emb (UR sig nD τ) (MT nD τ sig Unit (Elt F) ℕ UU ℕ) := embL
/-- Where the exchange's rounds are. -/
abbrev ER : Emb UX (MT nD τ sig Unit (Elt F) ℕ UU ℕ) := embR

variable (m : (ℓ : Loc nD τ sig) → Buf (Elt F) ℓ)

/-! ## Cells -/

/-- The barrier semaphore. -/
abbrev barS : Sem sig := (SemArray.scalar (sig.barrier 0 rfl) : Sems sig S_).sem

/-- The semaphores of the exchange: barrier, sends, receives, the four fetches. -/
abbrev csem : Fin 7 → SemLoc sig := fun
  | 0 => .reg barS
  | 1 => .dma (6 : Fin 8)
  | 2 => .dma (7 : Fin 8)
  | 3 => .dma (2 : Fin 8)
  | 4 => .dma (3 : Fin 8)
  | 5 => .dma (4 : Fin 8)
  | 6 => .dma (5 : Fin 8)

/-- A device's cell of each. -/
abbrev kcell (c : Dev nD) (k : Fin 7) : GSem nD τ sig := ((c : Thread nD τ), csem k)
/-- A device's barrier cell. -/
abbrev barCell (c : Dev nD) : GSem nD τ sig := kcell c 0
/-- A device's send cell. -/
abbrev sendCell (c : Dev nD) : GSem nD τ sig := kcell c 1
/-- A device's receive cell. -/
abbrev recvCell (c : Dev nD) : GSem nD τ sig := kcell c 2
/-- The index of the cell of fetch `r`. -/
abbrev fk (r : Fin 4) : Fin 7 := ⟨r.val + 3, by omega⟩
/-- A device's cell for the fetch of row block `r`. -/
abbrev fetchCell (c : Dev nD) (r : Fin 4) : GSem nD τ sig := kcell c (fk r)

/-- What one tile's transfer credits. -/
@[irreducible] def N : ℕ := (slotM rM ![0, 0, 0] inb_S32x64x64_S1x64x64_0_0_0).view.dmaCredit
/-- What one row block's transfer credits. -/
@[irreducible] def Nw : ℕ := (rowM wM ![0, 0] inb_S2048x2048_S512x2048_0_0).view.dmaCredit

/-- A tile's transfer credits something. -/
theorem N_pos : 0 < N := by unfold N; exact View.dmaCredit_pos _ (by decide)
/-- So does a row block's. -/
theorem Nw_pos : 0 < Nw := by unfold Nw; exact View.dmaCredit_pos _ (by decide)

/-! ## What is held -/

/-- Slot `j` of device `c`'s buffer of tiles. -/
def yP (c : Dev nD) (j : Fin 32) (f : S32x64x64.Idx → Elt F .bf16) : sProp 𝕄 :=
  (c : Thread nD τ).loc cc0_scratch1 ↦[slotSet j]{fullShare} f
/-- Slot `j` of device `c`'s buffer of received tiles. -/
def rP (c : Dev nD) (j : Fin 32) (f : S32x64x64.Idx → Elt F .bf16) : sProp 𝕄 :=
  (c : Thread nD τ).loc cc0_scratch2 ↦[slotSet j]{fullShare} f
/-- Row block `r` of device `c`'s copy of the weights. -/
def wP (c : Dev nD) (r : Fin 4) (f : S2048x2048.Idx → Elt F .f32) : sProp 𝕄 :=
  (c : Thread nD τ).loc cc0_scratch0 ↦[rowSet r]{fullShare} f
/-- Row block `r` of device `c`'s weights argument. -/
def aP (c : Dev nD) (r : Fin 4) : sProp 𝕄 :=
  (c : Thread nD τ).loc main_arg1 ↦[rowSet r]{fullShare} wbuf m c

/-- A slot of tiles can be a payload. -/
instance yP_storable (c : Dev nD) (j) (f) : BI.Storable (upEmb : UEmb _ 𝕄) (yP (F := F) c j f) := by
  unfold yP; infer_instance
/-- A slot of received tiles can be a payload. -/
instance rP_storable (c : Dev nD) (j) (f) : BI.Storable (upEmb : UEmb _ 𝕄) (rP (F := F) c j f) := by
  unfold rP; infer_instance
/-- A row block of the weights' copy can be a payload. -/
instance wP_storable (c : Dev nD) (j) (f) : BI.Storable (upEmb : UEmb _ 𝕄) (wP (F := F) c j f) := by
  unfold wP; infer_instance
/-- A row block of the weights argument can be a payload. -/
instance aP_storable (c : Dev nD) (j) : BI.Storable (upEmb : UEmb _ 𝕄) (aP (F := F) m c j) := by
  unfold aP; infer_instance

/-! ## The schedule -/

/-- A semaphore's number, by which the schedule tells the cells apart. -/
def kind : SemLoc sig → ℕ
  | .reg _ => 0
  | .dma q => q.val + 1

/-- Who has a duty at a cell: every other device at a barrier, send or receive cell, the device itself at
    a fetch cell. -/
def dutySet (g : GSem nD τ sig) : Finset (Dev nD) :=
  match kind g.2 with
  | 0 => Finset.univ.erase g.1.1
  | 7 => Finset.univ.erase g.1.1
  | 8 => Finset.univ.erase g.1.1
  | 3 => {g.1.1}
  | 4 => {g.1.1}
  | 5 => {g.1.1}
  | 6 => {g.1.1}
  | _ => ∅

/-- What a fetch hands back: the row block copied, and the argument's. -/
def fetchPay (c : Dev nD) (r : Fin 4) : sProp 𝕄 := iprop(wP c r (wbuf m c) ∗ aP m c r)

/-- What duty `d` of a cell hands over. A barrier signal hands the signalling device's landing slot for this
    device; a received tile its slot, filled; a sent one its slot back. -/
def payOf (c : Dev nD) (k : ℕ) (d : Dev nD) : sProp 𝕄 :=
  match k with
  | 0 => iprop(∃ f, rP d c f)
  | 7 => yP c d (Yc m c)
  | 8 => rP c d (Rc m c)
  | 3 => fetchPay m c 0
  | 4 => fetchPay m c 1
  | 5 => fetchPay m c 2
  | 6 => fetchPay m c 3
  | _ => iprop(emp)

/-- How many units a duty brings: one to a barrier cell, `n` to a send or receive cell, `nw` to a fetch cell. -/
def unitsOf (n nw k : ℕ) : ℕ :=
  match k with
  | 0 => 1
  | 7 => n
  | 8 => n
  | _ => nw

/-- Every duty pays something. -/
theorem unitsOf_pos (k : ℕ) : 0 < unitsOf N Nw k := by
  have h : ∀ n nw : ℕ, 0 < n → 0 < nw → 0 < unitsOf n nw k := by
    intro n nw hn hw
    unfold unitsOf
    split
    exacts [Nat.one_pos, hn, hn, hw]
  exact h N Nw N_pos Nw_pos

/-- A duty at a barrier pays one unit. -/
theorem unitsOf_zero : ∀ n nw, unitsOf n nw 0 = 1 := fun _ _ => rfl
/-- A duty at a send or a receive cell pays one tile's units. -/
theorem unitsOf_tile : ∀ n nw k, k = 7 ∨ k = 8 → unitsOf n nw k = n := fun _ _ k h => by
  rcases h with rfl | rfl <;> rfl
/-- A duty at a fetch cell pays one row block's units. -/
theorem unitsOf_fetch : ∀ n nw k, k = 3 ∨ k = 4 ∨ k = 5 ∨ k = 6 → unitsOf n nw k = nw := fun _ _ k h => by
  rcases h with rfl | rfl | rfl | rfl <;> rfl

/-- The schedule: one round, round 0. -/
def xRd : Rounds.Schedule (GSem nD τ sig) (Dev nD) 𝕄 where
  duties g r := if r = 0 ∧ g.1.2 = .tc then dutySet g else ∅
  unitless _ := False
  amount g _ _ := unitsOf N Nw (kind g.2)
  payload g _ d := payOf m g.1.1 (kind g.2) d
  amount_pos g _ _ _ := unitsOf_pos _

/-- Every payload of the schedule can be held by a cell. -/
instance xRd_payload_storable (g : GSem nD τ sig) (r : ℕ) (d : Dev nD) :
    BI.Storable (upEmb : UEmb _ 𝕄) ((xRd (F := F) m).payload g r d) := by
  show BI.Storable upEmb (payOf m g.1.1 (kind g.2) d)
  unfold payOf fetchPay
  split <;> infer_instance

section Sched
variable (c : Dev nD)

/-- The duties of a cell in its one round. -/
theorem duties_zero (k : Fin 7) : (xRd (F := F) m).duties (kcell c k) 0 = dutySet (kcell c k) := by
  dsimp only [xRd]; exact if_pos ⟨rfl, rfl⟩
/-- There are none in later rounds. -/
theorem duties_later (g : GSem nD τ sig) : ∀ r, 1 ≤ r → (xRd (F := F) m).duties g r = ∅ :=
  fun r hr => by dsimp only [xRd]; exact if_neg fun h => by omega

/-- The others have a duty each at a device's barrier. -/
theorem duties_bar : (xRd (F := F) m).duties (barCell c) 0 = Finset.univ.erase c := duties_zero m c 0
/-- There is one duty per other device at its send cell. -/
theorem duties_send : (xRd (F := F) m).duties (sendCell c) 0 = Finset.univ.erase c := duties_zero m c 1
/-- And one per other device at its receive cell. -/
theorem duties_recv : (xRd (F := F) m).duties (recvCell c) 0 = Finset.univ.erase c := duties_zero m c 2
/-- A fetch cell has one duty, the device's own. -/
theorem duties_fetch (r : Fin 4) : (xRd (F := F) m).duties (fetchCell c r) 0 = {c} := by
  fin_cases r
  exacts [duties_zero m c 3, duties_zero m c 4, duties_zero m c 5, duties_zero m c 6]

/-- A signal is one unit. -/
theorem amount_bar (d) : (xRd (F := F) m).amount (barCell c) 0 d = 1 := unitsOf_zero N Nw
/-- A tile sent pays one tile's units. -/
theorem amount_send (d) : (xRd (F := F) m).amount (sendCell c) 0 d = N :=
  unitsOf_tile N Nw (kind (csem 1)) (.inl rfl)
/-- A tile received pays as much. -/
theorem amount_recv (d) : (xRd (F := F) m).amount (recvCell c) 0 d = N :=
  unitsOf_tile N Nw (kind (csem 2)) (.inr rfl)
/-- A fetch pays one row block's units. -/
theorem amount_fetch (r : Fin 4) (d) : (xRd (F := F) m).amount (fetchCell c r) 0 d = Nw :=
  unitsOf_fetch N Nw (kind (csem (fk r))) (by revert r; decide)

/-- With its signal device `d` hands over slot `c` of its receive buffer. -/
theorem payload_bar (d : Dev nD) : (xRd (F := F) m).payload (barCell c) 0 d = iprop(∃ f, rP d c f) := rfl
/-- A finished send gives back the tile. -/
theorem payload_send (d : Dev nD) : (xRd (F := F) m).payload (sendCell c) 0 d = yP c d (Yc m c) := rfl
/-- A tile received comes with its slot, at the contents the sender computed. -/
theorem payload_recv (d : Dev nD) : (xRd (F := F) m).payload (recvCell c) 0 d = rP c d (Rc m c) := rfl
/-- A finished fetch gives the row block of the copy and that of the argument. -/
theorem payload_fetch (r : Fin 4) (d) : (xRd (F := F) m).payload (fetchCell c r) 0 d = fetchPay m c r := by
  fin_cases r <;> rfl

/-- There are 31 other devices. -/
theorem card_others : (Finset.univ.erase c : Finset (Dev nD)).card = 31 := by
  rw [Finset.card_erase_of_mem (Finset.mem_univ _), Finset.card_univ, Fintype.card_fin]; rfl

/-- A cell at which each other device pays `n` units expects 31 times `n`. -/
theorem expect_others (k : Fin 7) (n : ℕ) (hd : (xRd (F := F) m).duties (kcell c k) 0 = Finset.univ.erase c)
    (ha : ∀ d, (xRd (F := F) m).amount (kcell c k) 0 d = n) :
    (xRd (F := F) m).expect (kcell c k) 0 = 31 * n := by
  unfold Schedule.expect Schedule.amountOf
  rw [hd, Finset.sum_congr rfl fun d _ => ha d, Finset.sum_const, card_others, smul_eq_mul]

/-- A barrier expects 31 units. -/
theorem expect_bar : (xRd (F := F) m).expect (barCell c) 0 = 31 :=
  (expect_others m c 0 1 (duties_bar m c) (amount_bar m c)).trans (by decide)
/-- A send cell expects 31 tiles' units. -/
theorem expect_send : (xRd (F := F) m).expect (sendCell c) 0 = 31 * N :=
  expect_others m c 1 N (duties_send m c) (amount_send m c)
/-- A receive cell expects 31 tiles' units. -/
theorem expect_recv : (xRd (F := F) m).expect (recvCell c) 0 = 31 * N :=
  expect_others m c 2 N (duties_recv m c) (amount_recv m c)
/-- A fetch cell expects one row block's units. -/
theorem expect_fetch (r : Fin 4) : (xRd (F := F) m).expect (fetchCell c r) 0 = Nw := by
  unfold Schedule.expect Schedule.amountOf
  rw [duties_fetch, Finset.sum_singleton, amount_fetch]

/-- What a wait for the whole round at a barrier gives. -/
theorem rest_bar : bigSep ((xRd (F := F) m).duties (barCell c) 0 \ ∅) (fun d => (xRd (F := F) m).payload (barCell c) 0 d)
    = bigSep (Finset.univ.erase c) fun d : Dev nD => iprop(∃ f, rP d c f) := by
  rw [Finset.sdiff_empty, duties_bar]; rfl
/-- What a wait for all sends gives. -/
theorem rest_send : bigSep ((xRd (F := F) m).duties (sendCell c) 0 \ ∅) (fun d => (xRd (F := F) m).payload (sendCell c) 0 d)
    = bigSep (Finset.univ.erase c) fun d : Dev nD => yP c d (Yc m c) := by
  rw [Finset.sdiff_empty, duties_send]; rfl
/-- What a wait for all receives gives. -/
theorem rest_recv : bigSep ((xRd (F := F) m).duties (recvCell c) 0 \ ∅) (fun d => (xRd (F := F) m).payload (recvCell c) 0 d)
    = bigSep (Finset.univ.erase c) fun d : Dev nD => rP c d (Rc m c) := by
  rw [Finset.sdiff_empty, duties_recv]; rfl
/-- What a wait for a fetch gives. -/
theorem rest_fetch (r : Fin 4) : bigSep ((xRd (F := F) m).duties (fetchCell c r) 0 \ ∅)
    (fun d => (xRd (F := F) m).payload (fetchCell c r) 0 d) = fetchPay m c r := by
  rw [Finset.sdiff_empty, duties_fetch, bigSep_singleton, payload_fetch]

end Sched

/-! ## What each device owes, and the levels -/

/-- Credits of `n` owed to the cells `cell i` of the devices `i` from `j` on, all but `c`. -/
def oweTo (cell : Dev nD → GSem nD τ sig) (n : ℕ) (c : Dev nD) (j : ℕ) : CellTallies nD τ sig Unit :=
  ∑ i ∈ Finset.univ.filter (fun i : Dev nD => j ≤ i.val ∧ i ≠ c), tallyAt (cell i) () n

/-- What device `c` owes the receive cells once it has sent tiles up to `j`. -/
def oR (c : Dev nD) (j : ℕ) : CellTallies nD τ sig Unit := oweTo recvCell N c j
/-- What device `c` owes the barrier cells once it has signalled devices up to `j`. -/
def oB (c : Dev nD) (j : ℕ) : CellTallies nD τ sig Unit := oweTo barCell 1 c j
/-- What device `c` owes at launch. -/
def O₀ (c : Dev nD) : CellTallies nD τ sig Unit := oR c 0 + oB c 0

/-- Past the last device nothing is owed. -/
theorem oweTo_end (cell : Dev nD → GSem nD τ sig) (n : ℕ) (c : Dev nD) (j : ℕ) (hj : 32 ≤ j) :
    oweTo cell n c j = 0 := by
  unfold oweTo
  rw [Finset.filter_false_of_mem, Finset.sum_empty]
  intro i _ h
  have : i.val < 32 := i.isLt
  omega

/-- A device owes itself nothing. -/
theorem oweTo_self (cell : Dev nD → GSem nD τ sig) (n : ℕ) (c : Dev nD) :
    oweTo cell n c c.val = oweTo cell n c (c.val + 1) := by
  unfold oweTo
  congr 1
  refine Finset.filter_congr fun i _ => ?_
  constructor
  · intro h; refine ⟨?_, h.2⟩
    have : i.val ≠ c.val := fun e => h.2 (Fin.ext e)
    omega
  · intro h; exact ⟨by omega, h.2⟩

/-- Paying one device leaves what is owed to the later ones. -/
theorem oweTo_step (cell : Dev nD → GSem nD τ sig) (n : ℕ) (c j : Dev nD) (hj : j ≠ c) :
    oweTo cell n c j.val = oweTo cell n c (j.val + 1) + tallyAt (cell j) () n := by
  unfold oweTo
  have e : Finset.univ.filter (fun i : Dev nD => j.val ≤ i.val ∧ i ≠ c)
      = insert j (Finset.univ.filter (fun i : Dev nD => j.val + 1 ≤ i.val ∧ i ≠ c)) := by
    ext i
    simp only [Finset.mem_filter, Finset.mem_univ, true_and, Finset.mem_insert]
    constructor
    · intro h
      by_cases hij : i = j
      · exact .inl hij
      · have : i.val ≠ j.val := fun e => hij (Fin.ext e)
        exact .inr ⟨by omega, h.2⟩
    · rintro (rfl | h)
      · exact ⟨le_refl _, hj⟩
      · exact ⟨by omega, h.2⟩
  rw [e, Finset.sum_insert (by simp), add_comm]

/-- Only the named cells are owed anything. -/
theorem oweTo_pos {cell : Dev nD → GSem nD τ sig} {n : ℕ} {c : Dev nD} {j : ℕ} {g : GSem nD τ sig} {u : Unit}
    (h : 0 < oweTo cell n c j g u) : ∃ i, g = cell i := by
  by_contra hn
  have hn' : ∀ i, g ≠ cell i := fun i e => hn ⟨i, e⟩
  unfold oweTo at h
  rw [Finset.sum_apply, Finsupp.finset_sum_apply, Finset.sum_eq_zero] at h
  · exact Nat.lt_irrefl 0 h
  · intro i _
    rw [tallyAt_apply, if_neg fun h' => hn' i h'.1]

/-- The cells of the devices' cores are the ones waited on. -/
def L (g : GSem nD τ sig) : Finset Unit := if g.1.2 = .tc then {()} else ∅
/-- Barrier cells at 1, receive cells at 2, all others at 0. -/
def lv (g : GSem nD τ sig) (_ : Unit) : ℕ :=
  match kind g.2 with
  | 0 => 1
  | 8 => 2
  | _ => 0

/-- No cell elsewhere is waited on. -/
theorem L_of_ne (g : GSem nD τ sig) (h : g.1.2 ≠ .tc) : L g = ∅ := if_neg h
/-- Each cell of a device's core has the one level name. -/
theorem L_tc (c : Dev nD) (sm : SemLoc sig) : L ((c : Thread nD τ), sm) = {()} := if_pos rfl

/-- Once the barriers are signalled only receive cells are owed to. -/
theorem oR_pos {c : Dev nD} {j : ℕ} {g : GSem nD τ sig} {u : Unit} (h : 0 < oR c j g u) : ∃ i, g = recvCell i :=
  oweTo_pos h

/-- At launch only receive cells and barriers are owed to. -/
theorem O₀_pos {c : Dev nD} {g : GSem nD τ sig} {u : Unit} (h : 0 < O₀ c g u) :
    (∃ i, g = recvCell i) ∨ (∃ i, g = barCell i) := by
  unfold O₀ at h
  rw [Pi.add_apply, Finsupp.add_apply] at h
  rcases Nat.eq_zero_or_pos (oR c 0 g u) with h0 | h0
  · exact .inr (oweTo_pos (cell := barCell) (n := 1) (c := c) (j := 0) (g := g) (u := u)
      (show 0 < oB c 0 g u by omega))
  · exact .inl (oR_pos h0)

/-- A wait at a cell of level `l` is allowed while only cells above it are owed to. -/
theorem mayWait_of (c : Dev nD) (s : SemLoc sig) (O : CellTallies nD τ sig Unit) (l : ℕ)
    (hl : lv ((c : Thread nD τ), s) () ≤ l)
    (hO : ∀ g u, 0 < O g u → g.1.2 = .tc ∧ l < lv g u) :
    (levAts L lv : sProp 𝕄) ⊢ MayWait (c : Thread nD τ) s () O :=
  MayOwe.of_cut (L := L) (lev := lv) l
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

/-- The barrier and the fetches are waited on while only receive cells are owed to. -/
theorem mayWait_early (c : Dev nD) (s : SemLoc sig) (j : ℕ) (hs : lv ((c : Thread nD τ), s) () ≤ 1) :
    (levAts L lv : sProp 𝕄) ⊢ MayWait (c : Thread nD τ) s () (oR c j) :=
  mayWait_of c s _ 1 hs fun g u hg => by
    obtain ⟨i, rfl⟩ := oR_pos hg
    exact ⟨rfl, by show 1 < 2; decide⟩

/-- The staging is waited on while anything of the exchange is owed, or nothing. -/
theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine mayWait_of c _ _ 0 (by omega) fun g u hg => ?_
    rcases O₀_pos hg with ⟨i, rfl⟩ | ⟨i, rfl⟩
    · exact ⟨rfl, by show 0 < 2; decide⟩
    · exact ⟨rfl, by show 0 < 1; decide⟩
  · rw [MayWait_zero]; iintro -; iempintro

end Cert.KernelIdeal.Gen
-- ==== Proof.SlotData.lean ====
module
public import proofs.«01_k».proof.Proof.Protocol

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! What a slot holds after a store into it or a transfer into it, and what a row block holds after its fetch. -/

variable {F : FTy → Type} [FloatOps F]
variable (m : (ℓ : Loc nD τ sig) → Buf (Elt F) ℓ)

/-- The view of slot `j` of the tiles covers that slot. -/
theorem y_slot_set (j : Fin 32) (off : Fin 3 → ℕ) (hoff : off = ![j.val, 0, 0])
    (h : ∀ a, off a + S1x64x64.size a ≤ S32x64x64.size a) : (slotM yM off h).view.set = slotSet j := by
  rw [Memref.set_view_squeeze]
  exact (View.set_slice_whole cc0_scratch1 _).trans (slot_rect_set j off hoff h)

/-- The view of slot `j` of the received tiles covers that slot. -/
theorem r_slot_set (j : Fin 32) (off : Fin 3 → ℕ) (hoff : off = ![j.val, 0, 0])
    (h : ∀ a, off a + S1x64x64.size a ≤ S32x64x64.size a) : (slotM rM off h).view.set = slotSet j := by
  rw [Memref.set_view_squeeze]
  exact (View.set_slice_whole cc0_scratch2 _).trans (slot_rect_set j off hoff h)

/-- A load or store at slot `j` of the tiles touches that slot. -/
theorem y_access_set (j : Fin 32) (off : Fin 3 → ℕ) (hoff : off = ![j.val, 0, 0])
    (h : ∀ a, off a + S1x64x64.size a ≤ S32x64x64.size a) :
    (yM.access (Rect.unit (s := S32x64x64) off S1x64x64.size h)).set = slotSet j :=
  (View.set_slice_whole cc0_scratch1 _).trans (slot_rect_set j off hoff h)

/-- A load or store at slot `j` of the received tiles touches that slot. -/
theorem r_access_set (j : Fin 32) (off : Fin 3 → ℕ) (hoff : off = ![j.val, 0, 0])
    (h : ∀ a, off a + S1x64x64.size a ≤ S32x64x64.size a) :
    (rM.access (Rect.unit (s := S32x64x64) off S1x64x64.size h)).set = slotSet j :=
  (View.set_slice_whole cc0_scratch2 _).trans (slot_rect_set j off hoff h)

/-- An element of slot `j` is the slot's element at its two last coordinates. -/
theorem slot_elem (j : Fin 32) (i : S32x64x64.Idx) (hi : i ∈ slotSet j) : i = ix3 j (i 1) (i 2) := by
  have e := (mem_slotSet j i).1 hi
  exact Shape.idx3_ext e rfl rfl

/-- A store of a tile into slot `j` of the buffer of tiles. -/
theorem y_store_apply (j : Fin 32) (off : Fin 3 → ℕ) (hoff : off = ![j.val, 0, 0])
    (h : ∀ a, off a + S1x64x64.size a ≤ S32x64x64.size a) (f : S32x64x64.Idx → Elt F .bf16)
    (w : S1x64x64.Idx → Elt F .bf16) (i : S32x64x64.Idx) (hi : i ∈ slotSet j) :
    (yM.access (Rect.unit (s := S32x64x64) off S1x64x64.size h)).write (Elt F) f w Finset.univ i
      = w (ix3 0 (i 1) (i 2)) := by
  have e : i = (yM.access (Rect.unit (s := S32x64x64) off S1x64x64.size h)).emb (ix3 0 (i 1) (i 2)) :=
    (slot_elem j i hi).trans (slot_rect_emb j off hoff h (ix3 0 (i 1) (i 2))).symm
  conv_lhs => rw [e]
  rw [View.write_emb_of_mem _ _ (Finset.mem_univ _)]
  rfl

/-- A store of a tile into slot `j` of the buffer of received tiles. -/
theorem r_store_apply (j : Fin 32) (off : Fin 3 → ℕ) (hoff : off = ![j.val, 0, 0])
    (h : ∀ a, off a + S1x64x64.size a ≤ S32x64x64.size a) (f : S32x64x64.Idx → Elt F .bf16)
    (w : S1x64x64.Idx → Elt F .bf16) (i : S32x64x64.Idx) (hi : i ∈ slotSet j) :
    (rM.access (Rect.unit (s := S32x64x64) off S1x64x64.size h)).write (Elt F) f w Finset.univ i
      = w (ix3 0 (i 1) (i 2)) := by
  have e : i = (rM.access (Rect.unit (s := S32x64x64) off S1x64x64.size h)).emb (ix3 0 (i 1) (i 2)) :=
    (slot_elem j i hi).trans (slot_rect_emb j off hoff h (ix3 0 (i 1) (i 2))).symm
  conv_lhs => rw [e]
  rw [View.write_emb_of_mem _ _ (Finset.mem_univ _)]
  rfl

/-- A load of slot `j` of the buffer of tiles. -/
theorem y_load_apply (j : Fin 32) (off : Fin 3 → ℕ) (hoff : off = ![j.val, 0, 0])
    (h : ∀ a, off a + S1x64x64.size a ≤ S32x64x64.size a) (f : S32x64x64.Idx → Elt F .bf16) (x : S1x64x64.Idx) :
    (yM.access (Rect.unit (s := S32x64x64) off S1x64x64.size h)).read (Elt F) f x = f (ix3 j (x 1) (x 2)) := by
  show f _ = _
  exact congrArg f (slot_rect_emb j off hoff h x)

/-- Slot `c` of device `i`'s buffer of received tiles once tile `i` of device `c` has been copied there. -/
theorem sent_apply (c i : Fin 32) (off off' : Fin 3 → ℕ) (hoff : off = ![i.val, 0, 0]) (hoff' : off' = ![c.val, 0, 0])
    (h : ∀ a, off a + S1x64x64.size a ≤ S32x64x64.size a) (h' : ∀ a, off' a + S1x64x64.size a ≤ S32x64x64.size a)
    (f : S32x64x64.Idx → Elt F .bf16) (x : S32x64x64.Idx) (hx : x ∈ slotSet c) :
    (slotM rM off' h').view.write (Elt F) f ((slotM yM off h).view.read (Elt F) (Yc m c)) Finset.univ x
      = Rc m i x := by
  have e : x = (slotM rM off' h').view.emb (ix2 (x 1) (x 2)) := by
    refine (slot_elem c x hx).trans ?_
    show _ = (Rect.unit (s := S32x64x64) off' S1x64x64.size h').emb (Shape.reshapeEquiv (squeezes_S1x64x64_S64x64.numel_eq) (ix2 (x 1) (x 2)))
    rw [squeeze_ix, slot_rect_emb c off' hoff' h']
    rfl
  conv_lhs => rw [e]
  rw [View.write_emb_of_mem _ _ (Finset.mem_univ _)]
  show Yc m c ((Rect.unit (s := S32x64x64) off S1x64x64.size h).emb (Shape.reshapeEquiv (squeezes_S1x64x64_S64x64.numel_eq) (ix2 (x 1) (x 2)))) = _
  rw [squeeze_ix, slot_rect_emb i off hoff h]
  have ec : (⟨(x 0).val, (x 0).isLt⟩ : Dev nD) = c := Fin.ext ((mem_slotSet c x).1 hx)
  unfold Rc
  rw [ec]
  rfl

/-- The own tile, in both buffers. -/
theorem own_apply (c : Fin 32) (x : S32x64x64.Idx) (hx : x ∈ slotSet c) :
    Yc m c (ix3 c (x 1) (x 2)) = Rc m c x := by
  have ec : (⟨(x 0).val, (x 0).isLt⟩ : Dev nD) = c := Fin.ext ((mem_slotSet c x).1 hx)
  unfold Rc
  rw [ec]
  rfl

/-- The view of row block `r` of the copy covers that block. -/
theorem w_row_set (r : Fin 4) (off : Fin 2 → ℕ) (hoff : off = ![512 * r.val, 0])
    (h : ∀ a, off a + S512x2048.size a ≤ S2048x2048.size a) : (rowM wM off h).view.set = rowSet r :=
  (View.set_slice_whole cc0_scratch0 _).trans (row_rect_set r off hoff h)

/-- The view of row block `r` of the argument covers that block. -/
theorem a_row_set (r : Fin 4) (off : Fin 2 → ℕ) (hoff : off = ![512 * r.val, 0])
    (h : ∀ a, off a + S512x2048.size a ≤ S2048x2048.size a) : (rowM aM off h).view.set = rowSet r :=
  (View.set_slice_whole main_arg1 _).trans (row_rect_set r off hoff h)

/-- A row block of the copy after its fetch holds the weights. -/
theorem fetched_apply (c : Dev nD) (r : Fin 4) (off : Fin 2 → ℕ) (hoff : off = ![512 * r.val, 0])
    (h : ∀ a, off a + S512x2048.size a ≤ S2048x2048.size a) (f : S2048x2048.Idx → Elt F .f32)
    (i : S2048x2048.Idx) (hi : i ∈ rowSet r) :
    (rowM wM off h).view.write (Elt F) f ((rowM aM off h).view.read (Elt F) (wbuf m c)) Finset.univ i = wbuf m c i := by
  rw [← w_row_set r off hoff h] at hi
  obtain ⟨x, -, rfl⟩ := Finset.mem_map.1 hi
  rw [View.write_emb_of_mem _ _ (Finset.mem_univ _)]
  rfl

end Cert.KernelIdeal.Gen
-- ==== Proof.Steps.lean ====
module
public import proofs.«01_k».proof.Proof.SlotData

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The steps of a run: a signal, a fetch, a tile stored, a tile sent, the own tile moved. -/

variable {F : FTy → Type} [FloatOps F]

local notation "𝕄" => MT nD τ sig Unit (Elt F) ℕ UU ℕ

variable (m : (ℓ : Loc nD τ sig) → Buf (Elt F) ℓ) (K : Dev nD × Fin 7 → ℕ)

/-- No loop of the kernel needs a variant. -/
abbrev 𝒱₀ : Variants := Variants.none

/-- The weakest precondition of a program on device `c`. -/
abbrev WPc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The invariants of all the cells, that each has reached round 0, and the levels. -/
def records : sProp 𝕄 :=
  iprop((bigSep Finset.univ fun p : Dev nD × Fin 7 => cellInv ER (xRd m) (K p) (kcell p.1 p.2))
    ∗ (bigSep Finset.univ fun p : Dev nD × Fin 7 => reached ER (kcell p.1 p.2) 0) ∗ levAts L lv)

/-- The records may be used any number of times. -/
instance records_persistent : BI.Persistent (records (F := F) m K) := by unfold records; infer_instance

/-- The invariant of one cell. -/
theorem inv_of (c : Dev nD) (k : Fin 7) : records (F := F) m K ⊢ cellInv ER (xRd m) (K (c, k)) (kcell c k) := by
  unfold records
  exact sep_elim_left.trans (bigSep_elim (Φ := fun p : Dev nD × Fin 7 => (cellInv ER (xRd m) (K p) (kcell p.1 p.2) : sProp 𝕄)) (Finset.mem_univ (c, k)))

/-- One cell has reached round 0. -/
theorem reached_of (c : Dev nD) (k : Fin 7) : records (F := F) m K ⊢ reached ER (kcell c k) 0 := by
  unfold records
  exact (sep_elim_right.trans sep_elim_left).trans (bigSep_elim (Φ := fun p : Dev nD × Fin 7 => (reached ER (kcell p.1 p.2) 0 : sProp 𝕄)) (Finset.mem_univ (c, k)))

/-- The levels. -/
theorem lev_of : records (F := F) m K ⊢ levAts L lv := by
  unfold records
  exact sep_elim_right.trans sep_elim_right

/-- A family over a set with one more member. -/
theorem bigSep_ins {I : Type} [DecidableEq I] {s : Finset I} {i : I} (hi : i ∉ s) {Φ : I → sProp 𝕄} :
    bigSep (insert i s) Φ = iprop(Φ i ∗ bigSep s Φ) := BI.bigSep_insert hi

/-- What device `c` owes, whatever it has waited on. -/
def ow (c : Dev nD) (O : CellTallies nD τ sig Unit) : sProp 𝕄 := iprop(∃ W, owes (c : Thread nD τ) O W)

/-! ## Signals -/

/-- What device `c` keeps for the signal to device `i`: the duty's token and its own landing slot for `i`. -/
def sigFor (c i : Dev nD) : sProp 𝕄 := iprop(dutyTok ER (barCell i) 0 c ∗ ∃ f, rP c i f)

/-- Device `c` about to signal device `j`. -/
def SG (c : Dev nD) (j : ℕ) : sProp 𝕄 :=
  iprop((bigSep (Finset.univ.filter fun i : Dev nD => j ≤ i.val ∧ i ≠ c) (sigFor c)) ∗ ow c (oR c 0 + oB c j))

/-- Among the others from `c` on, `c` itself does not count. -/
theorem filter_self (c : Dev nD) :
    (Finset.univ.filter fun i : Dev nD => c.val ≤ i.val ∧ i ≠ c) = Finset.univ.filter fun i : Dev nD => c.val + 1 ≤ i.val ∧ i ≠ c := by
  refine Finset.filter_congr fun i _ => ?_
  constructor
  · intro h; refine ⟨?_, h.2⟩
    have : i.val ≠ c.val := fun e => h.2 (Fin.ext e)
    omega
  · intro h; exact ⟨by omega, h.2⟩

/-- The others from `j` on are `j` and the others after it. -/
theorem filter_step (c j : Dev nD) (hj : j ≠ c) :
    (Finset.univ.filter fun i : Dev nD => j.val ≤ i.val ∧ i ≠ c)
      = insert j (Finset.univ.filter fun i : Dev nD => j.val + 1 ≤ i.val ∧ i ≠ c) := by
  ext i
  simp only [Finset.mem_filter, Finset.mem_univ, true_and, Finset.mem_insert]
  constructor
  · intro h
    by_cases hij : i = j
    · exact .inl hij
    · have : i.val ≠ j.val := fun e => hij (Fin.ext e)
      exact .inr ⟨by omega, h.2⟩
  · rintro (rfl | h)
    · exact ⟨le_refl _, hj⟩
    · exact ⟨by omega, h.2⟩

/-- At its own place a device has nothing to signal. -/
theorem SG_self (c : Dev nD) : SG (F := F) c c.val = SG c (c.val + 1) := by
  unfold SG oB
  rw [filter_self, oweTo_self]

/-- Device `c`'s step towards device `j`: it signals `j`, handing over its landing slot for `j`, unless `j` is itself. -/
theorem signal_step (c : Dev nD) (j : ℕ) (hj : j < 32) (cnd : BitVec 1) (hc : cnd = 1#1 ↔ j ≠ c.val)
    (dv : cnd = 1#1 → Dev nD) (hd : ∀ h, (dv h).val = j)
    {α : Type} (k : Prog (TpuEff nD τ sig (Elt F) Λ₀ .tc) α) (Q : α → sProp 𝕄) :
    iprop(records m K ∗ SG c j) ⊢ iprop((SG c (j + 1) -∗ WPc c k Q)
      -∗ WPc c (if h : cnd = 1#1 then semSignalWord (dv h) barS 1#32 >>= fun _ => k else k) Q) := by
  by_cases h : cnd = 1#1
  · rw [dif_pos h]
    have hjc : (⟨j, hj⟩ : Dev nD) ≠ c := fun e => (hc.1 h) (congrArg Fin.val e)
    have hdv : dv h = ⟨j, hj⟩ := Fin.ext (hd h)
    rw [hdv]
    unfold SG
    rw [show (Finset.univ.filter fun i : Dev nD => j ≤ i.val ∧ i ≠ c) = _ from filter_step c ⟨j, hj⟩ hjc,
      show oB c j = _ from oweTo_step barCell 1 c ⟨j, hj⟩ hjc, bigSep_ins (by simp)]
    unfold sigFor ow
    simp only [semSignalWord, Prog.lift, Prog.bind_op, Prog.bind_ret]
    iintro ⟨#HR, ⟨⟨Htok, Hslot⟩, Hrest⟩, ⟨%W, HO⟩⟩ Hk
    iapply (Rounds.wp_signal 𝒱₀ ER (xRd m) (c : Thread nD τ) none (dst := ((⟨j, hj⟩ : Dev nD) : Thread nD τ)) (κ := K (⟨j, hj⟩, 0)) (r := 0)
      (d := c) (by rw [duties_bar]; exact Finset.mem_erase.2 ⟨hjc.symm, Finset.mem_univ _⟩)
      ((amount_bar m ⟨j, hj⟩ c).trans (by decide)) () (oR c 0 + oweTo barCell 1 c (j + 1)) (by rw [add_assoc])) $$ [HO Htok Hslot]
    · isplitr; · iapply (inv_of m K ⟨j, hj⟩ 0); iexact HR
      isplitl [HO]; · iexact HO
      isplitl [Htok]; · iexact Htok
      isplitl [Hslot]; · rw [payload_bar]; iexact Hslot
      iapply (reached_of m K ⟨j, hj⟩ 0); iexact HR
    iintro HO
    iapply Hk
    isplitl [Hrest]; · iexact Hrest
    iexists W; iexact HO
  · rw [dif_neg h]
    have hjc : j = c.val := by by_contra hn; exact h (hc.2 hn)
    subst hjc
    rw [SG_self]
    iintro ⟨-, H⟩ Hk
    iapply Hk; iexact H

/-! ## Fetches -/

/-- What device `c` needs to fetch row block `r`. -/
def fetchPre (c : Dev nD) (r : Fin 4) : sProp 𝕄 :=
  iprop((∃ f, wP c r f) ∗ aP m c r ∗ dutyTok ER (fetchCell c r) 0 c)

/-- Each fetch credits one row block's units. -/
theorem fetch_credit (r : Fin 4) (off : Fin 2 → ℕ) (h : ∀ a, off a + S512x2048.size a ≤ S2048x2048.size a) :
    (rowM wM off h).view.amount (csem (fk r)) = Nw := by
  unfold Nw
  fin_cases r <;> rfl

/-- The fetch of row block `r` enqueued: its credit to wait with. -/
theorem fetch_step (c : Dev nD) (r : Fin 4) (off : Fin 2 → ℕ) (hoff : off = ![512 * r.val, 0])
    (h h' : ∀ a, off a + S512x2048.size a ≤ S2048x2048.size a) (sem : SemLoc sig) (hsem : sem = csem (fk r))
    {hsrc : (rowM aM off h).view.WordExact} {hdst : (rowM wM off h').view.WordExact}
    {ht : (DmaTarget.here (rowM wM off h') : DmaTarget nD τ sig (.tc : Proc τ) .vmem S512x2048 .f32).Typed .hbm sem}
    {α : Type} (k : PUnit → Prog (TpuEff nD τ sig (Elt F) Λ₀ .tc) α) (Q : α → sProp 𝕄) :
    iprop(records m K ∗ fetchPre m c r) ⊢ iprop((cred (tallyAt (fetchCell c r) () Nw) -∗ WPc c (k ⟨⟩) Q)
      -∗ WPc c (Prog.lift (.enqueueDma (rowM aM off h) (.here (rowM wM off h')) sem hsrc hdst ht) >>= k) Q) := by
  subst hsem
  simp only [Prog.lift, Prog.bind_op, Prog.bind_ret]
  unfold fetchPre
  iintro ⟨#HR, ⟨%f, Hw⟩, Ha, Htok⟩ Hk
  iapply (Rounds.wp_copy_pointsTo 𝒱₀ ER (xRd m) (c : Thread nD τ) none (q := fullShare) (fs := wbuf m c) (fd := f) (r := 0) (d := c)
    (κ := K (c, fk r)) (by rw [duties_fetch]; exact Finset.mem_singleton_self _) () Nw
    (fetch_credit r off h') (amount_fetch m c r c) (by
      rw [payload_fetch, w_row_set r off hoff h', a_row_set r off hoff h]
      unfold fetchPay wP aP
      refine sep_mono_left (Entails.of_eq (pointsTo_congr fun i hi => ?_))
      exact fetched_apply m c r off hoff h f i hi)) $$ [Hw Ha Htok]
  · isplitr; · iapply (inv_of m K c (fk r)); iexact HR
    isplitl [Ha]; · rw [a_row_set r off hoff h]; unfold aP; iexact Ha
    isplitl [Hw]; · rw [w_row_set r off hoff h']; unfold wP; iexact Hw
    isplitl [Htok]; · iexact Htok
    iapply (reached_of m K c (fk r)); iexact HR
  iexact Hk

end Cert.KernelIdeal.Gen
-- ==== Proof.Tiles.lean ====
module
public import proofs.«01_k».proof.Proof.Steps

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The steps of one tile: it is stored, then sent to its device, or, if it is the device's own, moved
to the buffer of received tiles. -/

variable {F : FTy → Type} [FloatOps F]

local notation "𝕄" => MT nD τ sig Unit (Elt F) ℕ UU ℕ

variable (m : (ℓ : Loc nD τ sig) → Buf (Elt F) ℓ) (K : Dev nD × Fin 7 → ℕ)

/-- Beside tile `i`'s slot: for the own tile the landing slot; for another the landing slot on its device and the
    tokens of the two duties its transfer pays. -/
def beside (c i : Dev nD) : sProp 𝕄 :=
  if i = c then iprop(∃ f, rP c c f)
  else iprop((∃ f, rP i c f) ∗ dutyTok ER (sendCell c) 0 i ∗ dutyTok ER (recvCell i) 0 c)

/-- A tile not yet stored. -/
def todo (c i : Dev nD) : sProp 𝕄 := iprop((∃ f, yP c i f) ∗ beside c i)

/-- A tile stored and passed by the sending step: the own one is still to be moved. -/
def passed (c i : Dev nD) : sProp 𝕄 :=
  if i = c then iprop(yP c c (Yc m c) ∗ ∃ f, rP c c f) else cred (tallyAt (sendCell c) () N)

/-- A tile dealt with: the own one in both buffers; of another the send's credit. -/
def done (c i : Dev nD) : sProp 𝕄 :=
  if i = c then iprop(yP c c (Yc m c) ∗ rP c c (Rc m c)) else cred (tallyAt (sendCell c) () N)

/-- The tiles from `j` on. -/
def from' (c : Dev nD) (j : ℕ) : sProp 𝕄 := bigSep (Finset.univ.filter fun i : Dev nD => j ≤ i.val) (todo c)
/-- The tiles before `j`. -/
def upto (c : Dev nD) (j : ℕ) : sProp 𝕄 := bigSep (Finset.univ.filter fun i : Dev nD => i.val < j) (done m c)

/-- Device `c` about to store tile `j`. -/
def T0 (c : Dev nD) (j : ℕ) : sProp 𝕄 := iprop(from' c j ∗ upto m c j ∗ ow c (oR c j))
/-- Device `c` with tile `j` stored. -/
def T1 (c : Dev nD) (j : ℕ) (hj : j < 32) : sProp 𝕄 :=
  iprop((yP c ⟨j, hj⟩ (Yc m c) ∗ beside c ⟨j, hj⟩) ∗ from' c (j + 1) ∗ upto m c j ∗ ow c (oR c j))
/-- Device `c` with tile `j` sent, if it is not its own. -/
def T2 (c : Dev nD) (j : ℕ) (hj : j < 32) : sProp 𝕄 :=
  iprop(passed m c ⟨j, hj⟩ ∗ from' c (j + 1) ∗ upto m c j ∗ ow c (oR c (j + 1)))

/-- The tiles from `j` on are tile `j` and the later ones. -/
theorem from_step (c : Dev nD) (j : ℕ) (hj : j < 32) :
    from' (F := F) c j = iprop(todo c ⟨j, hj⟩ ∗ from' c (j + 1)) := by
  unfold from'
  rw [← bigSep_ins (by simp)]
  congr 1
  ext i
  simp only [Finset.mem_filter, Finset.mem_univ, true_and, Finset.mem_insert, Fin.ext_iff]
  omega

/-- The tiles before `j + 1` are tile `j` and those before it. -/
theorem upto_step (c : Dev nD) (j : ℕ) (hj : j < 32) :
    upto (F := F) m c (j + 1) = iprop(done m c ⟨j, hj⟩ ∗ upto m c j) := by
  unfold upto
  rw [← bigSep_ins (by simp)]
  congr 1
  ext i
  simp only [Finset.mem_filter, Finset.mem_univ, true_and, Finset.mem_insert, Fin.ext_iff]
  omega

/-- What a tile's payload must be: the tile of the activations. -/
def TileIs (c : Dev nD) (j : ℕ) (hj : j < 32) (w : S1x64x64.Idx → Elt F .bf16) : Prop :=
  ∀ a b, w (ix3 0 a b) = Yc m c (ix3 ⟨j, hj⟩ a b)

/-- A slot into which a tile was stored holds the activations. -/
theorem y_stored (c : Dev nD) (j : ℕ) (hj : j < 32) (off : Fin 3 → ℕ) (hoff : off = ![j, 0, 0])
    (h : ∀ a, off a + S1x64x64.size a ≤ S32x64x64.size a) (f : S32x64x64.Idx → Elt F .bf16)
    (w : S1x64x64.Idx → Elt F .bf16) (hw : TileIs m c j hj w) :
    ((c : Thread nD τ).loc cc0_scratch1 ↦[slotSet ⟨j, hj⟩]{fullShare}
        ((yM.access (Rect.unit (s := S32x64x64) off S1x64x64.size h)).write (Elt F) f w Finset.univ) : sProp 𝕄)
      ⊢ (c : Thread nD τ).loc cc0_scratch1 ↦[slotSet ⟨j, hj⟩]{fullShare} Yc m c :=
  Entails.of_eq (pointsTo_congr fun i hi => (y_store_apply ⟨j, hj⟩ off hoff h f w i hi).trans
    ((hw _ _).trans (congrArg (Yc m c) (slot_elem ⟨j, hj⟩ i hi).symm)))

/-- The tile's slot is read, to no use, and the tile stored. -/
theorem store_step (c : Dev nD) (j : ℕ) (hj : j < 32) (off : Fin 3 → ℕ) (hoff : off = ![j, 0, 0])
    (h h' : ∀ a, off a + S1x64x64.size a ≤ S32x64x64.size a) (w : S1x64x64.Idx → Elt F .bf16) (hw : TileIs m c j hj w)
    {hl} {hx} {hm}
    {α : Type} (k : Prog (TpuEff nD τ sig (Elt F) Λ₀ .tc) α) (Q : α → sProp 𝕄) :
    T0 m c j ⊢ iprop((T1 m c j hj -∗ WPc c k Q)
      -∗ WPc c (Prog.lift (.load yM (Rect.unit (s := S32x64x64) off S1x64x64.size h).toLoadRect hl) >>= fun _ =>
          Prog.lift (.store yM (Rect.unit (s := S32x64x64) off S1x64x64.size h') w Finset.univ hx hm) >>= fun _ => k) Q) := by
  simp only [Prog.lift, Prog.bind_op, Prog.bind_ret]
  unfold T0 T1
  rw [from_step c j hj]
  unfold todo
  iintro ⟨⟨⟨⟨%f, Hy⟩, Hb⟩, Hfrom⟩, Hup, HO⟩ Hk
  unfold yP
  iapply (wp_load_rect 𝒱₀ (c : Thread nD τ) none Set.univ (m := yM) (r := Rect.unit (s := S32x64x64) off S1x64x64.size h)
    (S := slotSet ⟨j, hj⟩) (by rw [y_access_set ⟨j, hj⟩ off hoff h])) $$ Hy
  iintro Hy
  iapply (wp_store 𝒱₀ (c : Thread nD τ) none Set.univ (m := yM) (r := Rect.unit (s := S32x64x64) off S1x64x64.size h') (Mk := Finset.univ)
    (S := slotSet ⟨j, hj⟩) (by rw [View.setOn_univ, y_access_set ⟨j, hj⟩ off hoff h'])) $$ Hy
  iintro Hy
  iapply Hk
  isplitl [Hy Hb]
  · isplitl [Hy]; · iapply (y_stored m c j hj off hoff h' f w hw); iexact Hy
    iexact Hb
  isplitl [Hfrom]; · iexact Hfrom
  isplitl [Hup]; · iexact Hup
  iexact HO

/-- A device's own slot, with its own tile stored in it, holds what is to be received. -/
theorem r_stored (c : Dev nD) (off : Fin 3 → ℕ) (hoff : off = ![c.val, 0, 0])
    (h : ∀ a, off a + S1x64x64.size a ≤ S32x64x64.size a) (f : S32x64x64.Idx → Elt F .bf16)
    (w : S1x64x64.Idx → Elt F .bf16) (hw : ∀ x, w x = Yc m c (ix3 c (x 1) (x 2))) :
    ((c : Thread nD τ).loc cc0_scratch2 ↦[slotSet c]{fullShare}
        ((rM.access (Rect.unit (s := S32x64x64) off S1x64x64.size h)).write (Elt F) f w Finset.univ) : sProp 𝕄)
      ⊢ (c : Thread nD τ).loc cc0_scratch2 ↦[slotSet c]{fullShare} Rc m c :=
  Entails.of_eq (pointsTo_congr fun i hi => (r_store_apply c off hoff h f w i hi).trans
    ((hw _).trans (own_apply m c i hi)))

/-- Each tile's transfer credits the same. -/
theorem tile_credit (off : Fin 3 → ℕ) (h : ∀ a, off a + S1x64x64.size a ≤ S32x64x64.size a) :
    (slotM rM off h).view.amount (csem 2) = N := by
  unfold N
  rfl

/-- One send: the tile goes to its device and lands in the sender's slot there. -/
theorem send_one (c : Dev nD) (j : ℕ) (hj : j < 32) (hjc : (⟨j, hj⟩ : Dev nD) ≠ c) (n : Dev nD) (hn : n = ⟨j, hj⟩)
    (off off' : Fin 3 → ℕ) (hoff : off = ![j, 0, 0]) (hoff' : off' = ![c.val, 0, 0])
    (h : ∀ a, off a + S1x64x64.size a ≤ S32x64x64.size a)
    (h' : ∀ a, off' a + S1x64x64.size a ≤ S32x64x64.size a)
    {hsc : (slotM rM off' h').view.ref.isScScratch = false}
    {hsrc : (slotM yM off h).view.WordExact} {hdst : (slotM rM off' h').view.WordExact}
    {ht : (DmaTarget.remote (Dev.tc n : Thread nD τ) (slotM rM off' h') (csem 1) hsc :
      DmaTarget nD τ sig (.tc : Proc τ) .vmem S64x64 .bf16).Typed .vmem (csem 2)}
    {α : Type} (k : Prog (TpuEff nD τ sig (Elt F) Λ₀ .tc) α) (Q : α → sProp 𝕄) :
    iprop(records m K ∗ T1 m c j hj) ⊢ iprop((T2 m c j hj -∗ WPc c k Q)
      -∗ WPc c (Prog.lift (.enqueueDma (slotM yM off h) (.remote (Dev.tc n : Thread nD τ) (slotM rM off' h') (csem 1) hsc)
            (csem 2) hsrc hdst ht) >>= fun _ => k) Q) := by
  subst hn
  simp only [Prog.lift, Prog.bind_op, Prog.bind_ret]
  unfold T1 T2 beside passed
  rw [if_neg hjc, if_neg hjc, show oR c j = _ from oweTo_step recvCell N c ⟨j, hj⟩ hjc]
  unfold ow yP rP
  iintro ⟨#HR, ⟨Hy, ⟨%f, Hr⟩, Hts, Htr⟩, Hfrom, Hup, ⟨%W, HO⟩⟩ Hk
  iapply (Rounds.wp_send_pointsTo 𝒱₀ ER (xRd m) (c : Thread nD τ) none (κ₁ := K (c, 1)) (κ₂ := K (⟨j, hj⟩, 2))
    (q := fullShare) (fs := Yc m c) (fd := f)
    (r₁ := 0) (r₂ := 0) (d₁ := (⟨j, hj⟩ : Dev nD)) (d₂ := c)
    (by rw [duties_send]; exact Finset.mem_erase.2 ⟨hjc, Finset.mem_univ _⟩)
    (by rw [duties_recv]; exact Finset.mem_erase.2 ⟨hjc.symm, Finset.mem_univ _⟩)
    () () N (tile_credit off' h') (amount_send m c _) (amount_recv m ⟨j, hj⟩ c) (oR c (j + 1)) (by rfl)
    (by rw [payload_send, y_slot_set ⟨j, hj⟩ off hoff h]; unfold yP; exact BI.Entails.refl _)
    (by
      rw [payload_recv, r_slot_set c off' hoff' h']; unfold rP
      exact Entails.of_eq (pointsTo_congr fun i hi => sent_apply m c ⟨j, hj⟩ off off' hoff hoff' h h' f i hi)))
    $$ [Hy Hr HO Hts Htr]
  · isplitr; · iapply (inv_of m K c 1); iexact HR
    isplitr; · iapply (inv_of m K ⟨j, hj⟩ 2); iexact HR
    isplitl [Hy]; · rw [y_slot_set ⟨j, hj⟩ off hoff h]; iexact Hy
    isplitl [Hr]; · rw [r_slot_set c off' hoff' h']; iexact Hr
    isplitl [HO]; · iexact HO
    isplitl [Hts]; · iexact Hts
    isplitr; · iapply (reached_of m K c 1); iexact HR
    isplitl [Htr]; · iexact Htr
    iapply (reached_of m K ⟨j, hj⟩ 2); iexact HR
  iintro ⟨Hcr, HO⟩
  iapply Hk
  isplitl [Hcr]; · iexact Hcr
  isplitl [Hfrom]; · iexact Hfrom
  isplitl [Hup]; · iexact Hup
  iexists W; iexact HO

/-- The tile is sent to its device, unless it is the device's own. -/
theorem send_step (c : Dev nD) (j : ℕ) (hj : j < 32) (cnd : BitVec 1) (hc : cnd = 1#1 ↔ j ≠ c.val)
    (dv : cnd = 1#1 → Dev nD) (hd : ∀ h, (dv h).val = j)
    (off off' : Fin 3 → ℕ) (hoff : off = ![j, 0, 0]) (hoff' : off' = ![c.val, 0, 0])
    (h : ∀ a, off a + S1x64x64.size a ≤ S32x64x64.size a)
    (h' : cnd = 1#1 → ∀ a, off' a + S1x64x64.size a ≤ S32x64x64.size a)
    {hsc : ∀ e : cnd = 1#1, (slotM rM off' (h' e)).view.ref.isScScratch = false}
    {hsrc : cnd = 1#1 → (slotM yM off h).view.WordExact} {hdst : ∀ e : cnd = 1#1, (slotM rM off' (h' e)).view.WordExact}
    {ht : ∀ e : cnd = 1#1, (DmaTarget.remote (Dev.tc (dv e) : Thread nD τ) (slotM rM off' (h' e)) (csem 1) (hsc e) :
      DmaTarget nD τ sig (.tc : Proc τ) .vmem S64x64 .bf16).Typed .vmem (csem 2)}
    {α : Type} (k : Prog (TpuEff nD τ sig (Elt F) Λ₀ .tc) α) (Q : α → sProp 𝕄) :
    iprop(records m K ∗ T1 m c j hj) ⊢ iprop((T2 m c j hj -∗ WPc c k Q)
      -∗ WPc c (if e : cnd = 1#1 then
          Prog.lift (.enqueueDma (slotM yM off h) (.remote (Dev.tc (dv e) : Thread nD τ) (slotM rM off' (h' e)) (csem 1) (hsc e))
            (csem 2) (hsrc e) (hdst e) (ht e)) >>= fun _ => k else k) Q) := by
  by_cases e : cnd = 1#1
  · rw [dif_pos e]
    exact send_one m K c j hj (fun e' => (hc.1 e) (congrArg Fin.val e')) (dv e) (Fin.ext (hd e)) off off' hoff hoff' h (h' e) k Q
  · rw [dif_neg e]
    have hjc : j = c.val := by by_contra hn; exact e (hc.2 hn)
    have hjc' : (⟨j, hj⟩ : Dev nD) = c := Fin.ext hjc
    unfold T1 T2 beside passed
    rw [if_pos hjc', if_pos hjc', hjc', show oR c j = oR c (j + 1) by rw [hjc]; exact oweTo_self recvCell N c]
    iintro ⟨-, ⟨Hy, Hr⟩, Hrest⟩ Hk
    iapply Hk
    isplitl [Hy Hr]
    · isplitl [Hy] <;> iassumption
    iexact Hrest

/-- With tile `j` done the device is at tile `j + 1`. -/
theorem T0_of_done (c : Dev nD) (j : ℕ) (hj : j < 32) :
    iprop(done m c ⟨j, hj⟩ ∗ from' c (j + 1) ∗ upto m c j ∗ ow c (oR c (j + 1))) ⊢ T0 (F := F) m c (j + 1) := by
  unfold T0
  rw [upto_step m c j hj]
  iintro ⟨Hd, Hf, Hu, HO⟩
  isplitl [Hf]; · iexact Hf
  isplitl [Hd Hu]
  · isplitl [Hd] <;> iassumption
  iexact HO

/-- The device's own tile is moved to its slot of the buffer of received tiles. -/
theorem own_step (c : Dev nD) (j : ℕ) (hj : j < 32) (cnd : BitVec 1) (hc : cnd = 1#1 ↔ j = c.val)
    (off : Fin 3 → ℕ) (hoff : off = ![j, 0, 0])
    (h h' h'' : ∀ a, off a + S1x64x64.size a ≤ S32x64x64.size a)
    (pay : Vec F S1x64x64 .bf16 → FVec F S1x64x64 .bf16) (hpay : ∀ v, pay v = v)
    {hl} {hl'} {hx} {hm}
    {α : Type} (k : Prog (TpuEff nD τ sig (Elt F) Λ₀ .tc) α) (Q : α → sProp 𝕄) :
    T2 m c j hj ⊢ iprop((T0 m c (j + 1) -∗ WPc c k Q)
      -∗ WPc c (if e : cnd = 1#1 then
          Prog.lift (.load yM (Rect.unit (s := S32x64x64) off S1x64x64.size h).toLoadRect hl) >>= fun v =>
          Prog.lift (.load rM (Rect.unit (s := S32x64x64) off S1x64x64.size h').toLoadRect hl') >>= fun _ =>
          Prog.lift (.store rM (Rect.unit (s := S32x64x64) off S1x64x64.size h'') (pay v) Finset.univ hx hm) >>= fun _ => k
        else k) Q) := by
  refine .trans ?_ (wand_mono_left (wand_mono_left (T0_of_done m c j hj)))
  by_cases e : cnd = 1#1
  · rw [dif_pos e]
    have hjc : j = c.val := hc.1 e
    have hjc' : (⟨j, hj⟩ : Dev nD) = c := Fin.ext hjc
    rw [hjc] at hoff
    simp only [Prog.lift, Prog.bind_op, Prog.bind_ret]
    unfold T2 passed done
    rw [if_pos hjc', if_pos hjc']
    unfold yP rP
    iintro ⟨⟨Hy, ⟨%f, Hr⟩⟩, Hrest⟩ Hk
    iapply (wp_load_rect 𝒱₀ (c : Thread nD τ) none Set.univ (m := yM) (r := Rect.unit (s := S32x64x64) off S1x64x64.size h)
      (S := slotSet c) (by rw [y_access_set c off hoff h])) $$ Hy
    iintro Hy
    iapply (wp_load_rect 𝒱₀ (c : Thread nD τ) none Set.univ (m := rM) (r := Rect.unit (s := S32x64x64) off S1x64x64.size h')
      (S := slotSet c) (by rw [r_access_set c off hoff h'])) $$ Hr
    iintro Hr
    iapply (wp_store 𝒱₀ (c : Thread nD τ) none Set.univ (m := rM) (r := Rect.unit (s := S32x64x64) off S1x64x64.size h'') (Mk := Finset.univ)
      (S := slotSet c) (by rw [View.setOn_univ, r_access_set c off hoff h''])) $$ Hr
    iintro Hr
    iapply Hk
    isplitl [Hy Hr]
    · isplitl [Hy]; · iexact Hy
      iapply (r_stored m c off hoff h'' f _ fun x => (congrFun (hpay _) x).trans (y_load_apply c off hoff h (Yc m c) x)); iexact Hr
    iexact Hrest
  · rw [dif_neg e]
    have hjc' : (⟨j, hj⟩ : Dev nD) ≠ c := fun e' => e (hc.2 (congrArg Fin.val e'))
    unfold T2 passed done
    rw [if_neg hjc', if_neg hjc']
    iintro H Hk
    iapply Hk; iexact H

end Cert.KernelIdeal.Gen
-- ==== Proof.Conds.lean ====
module
public import proofs.«01_k».proof.Proof.Tiles

@[expose] public section
set_option maxRecDepth 65536

noncomputable section

namespace Cert.KernelIdeal.Gen
open Idealize.ShloMosaic
open Idealize.ShloMosaic.TcCoe

/-! The branches' conditions: a device compares its position with the step's number. -/

/-- The position of device `c` as the kernel computes it. -/
def pos (c : Dev nD) : BitVec 32 := Scalar.remsi (Scalar.divsi (Dev.word c) 1#32) 32#32

/-- The printed test that device `c` is not device `j`, at every pair. -/
theorem other_table : ∀ c j : Fin 32,
    Scalar.cmpi .ne (Scalar.extui (Scalar.cmpi .ne (pos c) (BitVec.ofNat 32 j.val)) : BitVec 32) 0#32 = 1#1 ↔ j.val ≠ c.val := by
  decide +kernel

/-- The printed test that device `c` is device `j`, at every pair. -/
theorem own_table : ∀ c j : Fin 32,
    Scalar.cmpi .ne (Scalar.extui (Scalar.cmpi .eq (pos c) (BitVec.ofNat 32 j.val)) : BitVec 32) 0#32 = 1#1 ↔ j.val = c.val := by
  decide +kernel

/-- The condition of a step towards another device. -/
theorem other_iff (c : Dev nD) (j : ℕ) (hj : j < 32) :
    Scalar.cmpi .ne (Scalar.extui (Scalar.cmpi .ne (pos c) (BitVec.ofNat 32 j)) : BitVec 32) 0#32 = 1#1 ↔ j ≠ c.val :=
  other_table c ⟨j, hj⟩

/-- The condition of the device's own step. -/
theorem own_iff (c : Dev nD) (j : ℕ) (hj : j < 32) :
    Scalar.cmpi .ne (Scalar.extui (Scalar.cmpi .eq (pos c) (BitVec.ofNat 32 j)) : BitVec 32) 0#32 = 1#1 ↔ j = c.val :=
  own_table c ⟨j, hj⟩

end Cert.KernelIdeal.Gen
-- ==== Proof.Runs.lean ====
module
public import proofs.«01_k».proof.Proof.Conds
public import proofs.«01_k».proof.Proof.Gen.KernelIdeal.Skeleton

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! Runs put together from runs, and one whole iteration over a tile. -/

variable {F : FTy → Type} [FloatOps F]

local notation "𝕄" => MT nD τ sig Unit (Elt F) ℕ UU ℕ

variable (m : (ℓ : Loc nD τ sig) → Buf (Elt F) ℓ) (K : Dev nD × Fin 7 → ℕ)

/-- A program run after another, what the first one leaves untouched kept aside. -/
theorem run_seq {c : Dev nD} {P X : sProp 𝕄} {α β : Type} {p : Prog (TpuEff nD τ sig (Elt F) Λ₀ .tc) α} {R : α → sProp 𝕄}
    {f : α → Prog (TpuEff nD τ sig (Elt F) Λ₀ .tc) β} {Q : β → sProp 𝕄}
    (h₁ : iprop(records m K ∗ P) ⊢ WPc c p R) (h₂ : ∀ v, iprop(records m K ∗ R v ∗ X) ⊢ WPc c (f v) Q) :
    iprop(records m K ∗ P ∗ X) ⊢ WPc c (p >>= f) Q := by
  have e : iprop(records m K ∗ P ∗ X) ⊢ iprop(records m K ∗ WPc c p R ∗ X) := by
    iintro ⟨#HR, HP, HX⟩
    isplitr; · iexact HR
    isplitl [HP]
    · iapply h₁
      isplitr; · iexact HR
      iexact HP
    iexact HX
  refine e.trans ?_
  unfold WPc
  rw [wp_bind]
  iintro ⟨#HR, H, HX⟩
  iapply (wp_wand_r _ _ _)
  isplitl [H]; · iexact H
  iintro %v Hv
  iapply (h₂ v)
  isplitr; · iexact HR
  isplitl [Hv]; · iexact Hv
  iexact HX

/-- A run's end. -/
theorem end_of_run {c : Dev nD} {α : Type} {P : sProp 𝕄} (v : α) :
    iprop(records m K ∗ P) ⊢ WPc c (Prog.ret v) (fun _ => P) := by
  unfold WPc
  rw [wp_ret]
  iintro ⟨-, H⟩
  imodintro
  iexact H

/-- A run's end with a fact of its value. -/
theorem end_with {c : Dev nD} {α : Type} {P : sProp 𝕄} {φ : α → Prop} (v : α) (h : φ v) :
    iprop(records m K ∗ P) ⊢ WPc c (Prog.ret v) (fun v => iprop(⌜φ v⌝ ∗ P)) := by
  unfold WPc
  rw [wp_ret]
  iintro ⟨-, H⟩
  imodintro
  isplitr; · ipureintro; exact h
  iexact H

/-- The own step before the rest of a run. -/
theorem own_next {c : Dev nD} (j : ℕ) (hj : j < 32) {cnd' : BitVec 1} (hc' : cnd' = 1#1 ↔ j = c.val)
    {pay : Vec F S1x64x64 .bf16 → FVec F S1x64x64 .bf16} (hpay : ∀ v, pay v = v)
    {h : ∀ a, (![j, 0, 0] : Fin 3 → ℕ) a + S1x64x64.size a ≤ S32x64x64.size a} {hl1} {hl2} {hx2} {hm2}
    {α : Type} {k : Prog (TpuEff nD τ sig (Elt F) Λ₀ .tc) α} {Q : α → sProp 𝕄}
    (hk : iprop(records m K ∗ T0 m c (j + 1)) ⊢ WPc c k Q) :
    iprop(records m K ∗ T2 m c j hj) ⊢ WPc c
      (if e' : cnd' = 1#1 then
        Prog.lift (.load yM (Rect.unit (s := S32x64x64) ![j, 0, 0] S1x64x64.size h).toLoadRect hl1) >>= fun v =>
        Prog.lift (.load rM (Rect.unit (s := S32x64x64) ![j, 0, 0] S1x64x64.size h).toLoadRect hl2) >>= fun _ =>
        Prog.lift (.store rM (Rect.unit (s := S32x64x64) ![j, 0, 0] S1x64x64.size h) (pay v) Finset.univ hx2 hm2) >>= fun _ => k
      else k) Q := by
  iintro ⟨#HR, H⟩
  iapply (own_step m c j hj cnd' hc' ![j, 0, 0] rfl h h h pay hpay k Q) $$ H
  iintro H
  iapply hk
  isplitr; · iexact HR
  iexact H

/-- The storing and sending steps before the rest of a run. -/
theorem send_next {c : Dev nD} (j : ℕ) (hj : j < 32) {w : S1x64x64.Idx → Elt F .bf16} (hw : TileIs m c j hj w)
    {cnd : BitVec 1} (hc : cnd = 1#1 ↔ j ≠ c.val)
    {dv : cnd = 1#1 → Dev nD} (hd : ∀ h, (dv h).val = j)
    {off' : Fin 3 → ℕ} (hoff' : off' = ![c.val, 0, 0])
    {h : ∀ a, (![j, 0, 0] : Fin 3 → ℕ) a + S1x64x64.size a ≤ S32x64x64.size a}
    {h' : cnd = 1#1 → ∀ a, off' a + S1x64x64.size a ≤ S32x64x64.size a}
    {hl} {hx} {hm}
    {hsc : ∀ e : cnd = 1#1, (slotM rM off' (h' e)).view.ref.isScScratch = false}
    {hsrc : cnd = 1#1 → (slotM yM ![j, 0, 0] h).view.WordExact} {hdst : ∀ e : cnd = 1#1, (slotM rM off' (h' e)).view.WordExact}
    {ht : ∀ e : cnd = 1#1, (DmaTarget.remote (Dev.tc (dv e) : Thread nD τ) (slotM rM off' (h' e)) (csem 1) (hsc e) :
      DmaTarget nD τ sig (.tc : Proc τ) .vmem S64x64 .bf16).Typed .vmem (csem 2)}
    {α : Type} {k : Prog (TpuEff nD τ sig (Elt F) Λ₀ .tc) α} {Q : α → sProp 𝕄}
    (hk : iprop(records m K ∗ T2 m c j hj) ⊢ WPc c k Q) :
    iprop(records m K ∗ T0 m c j) ⊢ WPc c
      (Prog.lift (.load yM (Rect.unit (s := S32x64x64) ![j, 0, 0] S1x64x64.size h).toLoadRect hl) >>= fun _ =>
        Prog.lift (.store yM (Rect.unit (s := S32x64x64) ![j, 0, 0] S1x64x64.size h) w Finset.univ hx hm) >>= fun _ =>
        if e : cnd = 1#1 then
          Prog.lift (.enqueueDma (slotM yM ![j, 0, 0] h) (.remote (Dev.tc (dv e) : Thread nD τ) (slotM rM off' (h' e)) (csem 1) (hsc e))
            (csem 2) (hsrc e) (hdst e) (ht e)) >>= fun _ => k
        else k) Q := by
  iintro ⟨#HR, H⟩
  iapply (store_step m c j hj ![j, 0, 0] rfl h h w hw _ Q) $$ H
  iintro H
  iapply (send_step m K c j hj cnd hc dv hd ![j, 0, 0] off' rfl hoff' h h' _ Q) $$ [H]
  · isplitr; · iexact HR
    iexact H
  iintro H
  iapply hk
  isplitr; · iexact HR
  iexact H

/-- One whole iteration: the tile stored, sent or moved, before the rest of a run. -/
theorem tile_next {c : Dev nD} (j : ℕ) (hj : j < 32) {w : S1x64x64.Idx → Elt F .bf16} (hw : TileIs m c j hj w)
    {cnd : BitVec 1} (hc : cnd = 1#1 ↔ j ≠ c.val) {cnd' : BitVec 1} (hc' : cnd' = 1#1 ↔ j = c.val)
    {dv : cnd = 1#1 → Dev nD} (hd : ∀ h, (dv h).val = j)
    {off' : Fin 3 → ℕ} (hoff' : off' = ![c.val, 0, 0])
    {pay : Vec F S1x64x64 .bf16 → FVec F S1x64x64 .bf16} (hpay : ∀ v, pay v = v)
    {h : ∀ a, (![j, 0, 0] : Fin 3 → ℕ) a + S1x64x64.size a ≤ S32x64x64.size a}
    {h' : cnd = 1#1 → ∀ a, off' a + S1x64x64.size a ≤ S32x64x64.size a}
    {hl} {hx} {hm}
    {hsc : ∀ e : cnd = 1#1, (slotM rM off' (h' e)).view.ref.isScScratch = false}
    {hsrc : cnd = 1#1 → (slotM yM ![j, 0, 0] h).view.WordExact} {hdst : ∀ e : cnd = 1#1, (slotM rM off' (h' e)).view.WordExact}
    {ht : ∀ e : cnd = 1#1, (DmaTarget.remote (Dev.tc (dv e) : Thread nD τ) (slotM rM off' (h' e)) (csem 1) (hsc e) :
      DmaTarget nD τ sig (.tc : Proc τ) .vmem S64x64 .bf16).Typed .vmem (csem 2)}
    {hl1} {hl2} {hx2} {hm2}
    {α : Type} {k : Prog (TpuEff nD τ sig (Elt F) Λ₀ .tc) α} {Q : α → sProp 𝕄}
    (hk : iprop(records m K ∗ T0 m c (j + 1)) ⊢ WPc c k Q) :
    iprop(records m K ∗ T0 m c j) ⊢ WPc c
      (Prog.lift (.load yM (Rect.unit (s := S32x64x64) ![j, 0, 0] S1x64x64.size h).toLoadRect hl) >>= fun _ =>
        Prog.lift (.store yM (Rect.unit (s := S32x64x64) ![j, 0, 0] S1x64x64.size h) w Finset.univ hx hm) >>= fun _ =>
        if e : cnd = 1#1 then
          Prog.lift (.enqueueDma (slotM yM ![j, 0, 0] h) (.remote (Dev.tc (dv e) : Thread nD τ) (slotM rM off' (h' e)) (csem 1) (hsc e))
            (csem 2) (hsrc e) (hdst e) (ht e)) >>= fun _ =>
          if e' : cnd' = 1#1 then
            Prog.lift (.load yM (Rect.unit (s := S32x64x64) ![j, 0, 0] S1x64x64.size h).toLoadRect hl1) >>= fun v =>
            Prog.lift (.load rM (Rect.unit (s := S32x64x64) ![j, 0, 0] S1x64x64.size h).toLoadRect hl2) >>= fun _ =>
            Prog.lift (.store rM (Rect.unit (s := S32x64x64) ![j, 0, 0] S1x64x64.size h) (pay v) Finset.univ hx2 hm2) >>= fun _ => k
          else k
        else
          if e' : cnd' = 1#1 then
            Prog.lift (.load yM (Rect.unit (s := S32x64x64) ![j, 0, 0] S1x64x64.size h).toLoadRect hl1) >>= fun v =>
            Prog.lift (.load rM (Rect.unit (s := S32x64x64) ![j, 0, 0] S1x64x64.size h).toLoadRect hl2) >>= fun _ =>
            Prog.lift (.store rM (Rect.unit (s := S32x64x64) ![j, 0, 0] S1x64x64.size h) (pay v) Finset.univ hx2 hm2) >>= fun _ => k
          else k) Q := by
  exact send_next m K j hj hw hc hd hoff' (own_next m K j hj hc' hpay hk)

/-! ## The payloads -/

/-- What the slice a tile is made of must be. -/
def SliceIs (c : Dev nD) (j : ℕ) (hj : j < 32) (w : S64x64.Idx → Elt F .bf16) : Prop :=
  ∀ a b, w (ix2 a b) = Yc m c (ix3 ⟨j, hj⟩ a b)

/-- A slice that is a tile stays one when cast to a slot's shape. -/
theorem tile_of_slice {c : Dev nD} {j : ℕ} {hj : j < 32} {w : FVec F S64x64 .bf16} (hw : SliceIs m c j hj w) (h) :
    TileIs m c j hj (shapeCast S1x64x64 w h) :=
  fun a b => (shapeCast_ab_1ab_apply w h 0 a b).trans (hw a b)

/-- 64 columns of a half of the activations are a tile. -/
theorem slice_of_half {c : Dev nD} {j : ℕ} (hj : j < 32) {y : FVec F S64x1024 .bf16} (hy : y = yHalf m c (decide (16 ≤ j)))
    {o : ℕ} (ho : o = 64 * (j % 16)) (h : S64x1024.Slices ![0, o] S64x64) :
    SliceIs m c j hj (extractStridedSlice S64x64 ![0, o] y h) := by
  subst hy ho
  intro a b
  unfold Yc
  refine extractStridedSlice_apply _ _ h _ _ fun i => ?_
  match i with
  | 0 => exact (Nat.zero_add _).symm
  | 1 => rfl

/-- Casting a slot to a matrix and back changes nothing. -/
theorem there_and_back (v : Vec F S1x64x64 .bf16) (h h') : shapeCast S1x64x64 (shapeCast S64x64 v h) h' = v :=
  shapeCast_shapeCast v h h'

end Cert.KernelIdeal.Gen
-- ==== Proof.Waits.lean ====
module
public import proofs.«01_k».proof.Proof.Runs
public import proofs.«01_k».proof.Proof.Gen.KernelIdeal.Skeleton

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The waits: of a fetch, on the barrier, for the tiles received and for those sent. -/

variable {F : FTy → Type} [FloatOps F]

local notation "𝕄" => MT nD τ sig Unit (Elt F) ℕ UU ℕ

variable (m : (ℓ : Loc nD τ sig) → Buf (Elt F) ℓ) (K : Dev nD × Fin 7 → ℕ)

/-- A wait for all of a cell's round: the cell closes at zero and what its duties hand over comes back. -/
theorem wait_step (c : Dev nD) (k : Fin 7) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ (csem k) n K)
    (hn : n = (xRd m).expect (kcell c k) 0) (O : CellTallies nD τ sig Unit)
    (hO : (levAts L lv : sProp 𝕄) ⊢ MayWait (c : Thread nD τ) (csem k) () O)
    {P : sProp 𝕄} (hP : bigSep ((xRd (F := F) m).duties (kcell c k) 0 \ ∅) (fun d => (xRd (F := F) m).payload (kcell c k) 0 d) = P)
    {α : Type} (f : PUnit → Prog (TpuEff nD τ sig (Elt F) Λ₀ .tc) α) (Q : α → sProp 𝕄) :
    iprop(records m K ∗ cred (tallyAt (kcell c k) () n) ∗ atPos ER (kcell c k) 0 ∅ 0 ∗ ow c O)
      ⊢ iprop((iprop(semVal (kcell c k) 0 ∗ P ∗ ow c O) -∗ WPc c (f ⟨⟩) Q) -∗ WPc c (Prog.lift w >>= f) Q) := by
  simp only [Prog.lift, Prog.bind_op, Prog.bind_ret]
  unfold ow
  iintro ⟨#HR, Hc, Hat, ⟨%W, HO⟩⟩ Hk
  ihave #HI := (inv_of m K c k) $$ HR
  ihave #HL := (lev_of m K) $$ HR
  iapply (Rounds.wp_wait_rest_token 𝒱₀ ER (xRd m) (c : Thread nD τ) none (κ := K (c, k)) hw (Set.mem_univ _) () (O := O) (W := W)
    (R := 0) (m := 0) (T := ∅) (by rw [Nat.zero_add, hn])) $$ [Hc HO Hat]
  · isplitr; · iexact HI
    isplitl [Hc]; · iexact Hc
    isplitl [HO]; · iexact HO
    isplitr; · iapply hO; iexact HL
    iexact Hat
  iintro ⟨HO, Hat, -, Hpay⟩
  imod (Rounds.cell_close ER (xRd m) (Set.mem_univ (K (c, k))) (fun h => h) (R := 0 + 1) (duties_later m (kcell c k))) $$ [Hat] with Hz
  · isplitr; · iexact HI
    iexact Hat
  iapply Hk
  isplitl [Hz]; · iexact Hz
  isplitl [Hpay]; · iapply (Entails.of_eq hP); iexact Hpay
  iexists (insert (csem k, ()) W); iexact HO

/-- The fetch of row block `r` waited for. -/
theorem fetch_wait (c : Dev nD) (r : Fin 4) (off : Fin 2 → ℕ) (h h' : ∀ a, off a + S512x2048.size a ≤ S2048x2048.size a)
    (sem : DmaSem sig) (hsem : SemLoc.dma sem = csem (fk r)) {hsrc} {hdst}
    {α : Type} (f : PUnit → Prog (TpuEff nD τ sig (Elt F) Λ₀ .tc) α) (Q : α → sProp 𝕄) :
    iprop(records m K ∗ cred (tallyAt (fetchCell c r) () Nw) ∗ atPos ER (fetchCell c r) 0 ∅ 0 ∗ ow c (oR c 0))
      ⊢ iprop((iprop(semVal (fetchCell c r) 0 ∗ fetchPay m c r ∗ ow c (oR c 0)) -∗ WPc c (f ⟨⟩) Q)
        -∗ WPc c (Prog.lift (.waitDma2 sem (rowM aM off h) (rowM wM off h') hsrc hdst) >>= f) Q) := by
  have e : (rowM wM off h').view.dmaCredit = Nw := by unfold Nw; rfl
  refine wait_step m K c (fk r) (n := Nw) (fun P => ?_) (expect_fetch m c r).symm (oR c 0) (mayWait_early c _ 0 ?_) (rest_fetch m c r) f Q
  · rw [← hsem, ← e]
    exact wpE_waitDma2_eq 𝒱₀ (c : Thread nD τ) none Set.univ P
  · fin_cases r <;> exact Nat.le_of_ble_eq_true rfl

/-- The barrier waited for: every other device's landing slot for this one. -/
theorem bar_wait (c : Dev nD) (sem : Sem sig) (hsem : sem = barS)
    {α : Type} (f : PUnit → Prog (TpuEff nD τ sig (Elt F) Λ₀ .tc) α) (Q : α → sProp 𝕄) :
    iprop(records m K ∗ cred (tallyAt (barCell c) () 31) ∗ atPos ER (barCell c) 0 ∅ 0 ∗ ow c (oR c 0))
      ⊢ iprop((iprop(semVal (barCell c) 0 ∗ (bigSep (Finset.univ.erase c) fun d : Dev nD => iprop(∃ f, rP d c f)) ∗ ow c (oR c 0)) -∗ WPc c (f ⟨⟩) Q)
        -∗ WPc c (semWaitWord sem 31#32 >>= f) Q) := by
  subst hsem
  exact wait_step m K c 0 (n := 31) (fun P => wpE_semWait_eq 𝒱₀ (c : Thread nD τ) none Set.univ P) (expect_bar m c).symm (oR c 0)
    (mayWait_early c _ 0 (Nat.le_of_ble_eq_true rfl)) (rest_bar m c) f Q

/-- The first 31 slots of a buffer of tiles. -/
abbrev S31M (M : Memref sig .tc .vmem S32x64x64 .bf16) : Memref sig .tc .vmem S31x64x64 .bf16 :=
  M.slice (Rect.unit (s := S32x64x64) ![0, 0, 0] S31x64x64.size inb_S32x64x64_S31x64x64_0_0_0) (fun _ => rfl)

/-- The receives waited for: the other devices' tiles, in their slots. -/
theorem recv_wait (c : Dev nD) {hsrc} {hdst}
    {α : Type} (f : PUnit → Prog (TpuEff nD τ sig (Elt F) Λ₀ .tc) α) (Q : α → sProp 𝕄) :
    iprop(records m K ∗ cred (tallyAt (recvCell c) () (31 * N)) ∗ atPos ER (recvCell c) 0 ∅ 0 ∗ ow c 0)
      ⊢ iprop((iprop(semVal (recvCell c) 0 ∗ (bigSep (Finset.univ.erase c) fun d : Dev nD => rP c d (Rc m c)) ∗ ow c 0) -∗ WPc c (f ⟨⟩) Q)
        -∗ WPc c (Prog.lift (.waitDma2 cc0_scratch5.sem (S31M yM) (S31M rM) hsrc hdst) >>= f) Q) := by
  have e : (S31M rM).view.dmaCredit = 31 * N := by unfold N; rfl
  refine wait_step m K c 2 (n := 31 * N) (fun P => ?_) (expect_recv m c).symm 0 (by rw [MayWait_zero]; iintro -; iempintro) (rest_recv m c) f Q
  rw [← e]
  exact wpE_waitDma2_eq 𝒱₀ (c : Thread nD τ) none Set.univ P

/-- The sends waited for: the tiles' slots back. -/
theorem send_wait (c : Dev nD) {hsrc} {hdst}
    {α : Type} (f : PUnit → Prog (TpuEff nD τ sig (Elt F) Λ₀ .tc) α) (Q : α → sProp 𝕄) :
    iprop(records m K ∗ cred (tallyAt (sendCell c) () (31 * N)) ∗ atPos ER (sendCell c) 0 ∅ 0 ∗ ow c 0)
      ⊢ iprop((iprop(semVal (sendCell c) 0 ∗ (bigSep (Finset.univ.erase c) fun d : Dev nD => yP c d (Yc m c)) ∗ ow c 0) -∗ WPc c (f ⟨⟩) Q)
        -∗ WPc c (Prog.lift (.waitDma2 cc0_scratch4.sem (S31M rM) (S31M yM) hsrc hdst) >>= f) Q) := by
  have e : (S31M yM).view.dmaCredit = 31 * N := by unfold N; rfl
  refine wait_step m K c 1 (n := 31 * N) (fun P => ?_) (expect_send m c).symm 0 (by rw [MayWait_zero]; iintro -; iempintro) (rest_send m c) f Q
  rw [← e]
  exact wpE_waitDma2_eq 𝒱₀ (c : Thread nD τ) none Set.univ P

end Cert.KernelIdeal.Gen
-- ==== Proof.Signals.lean ====
module
public import proofs.«01_k».proof.Proof.Runs
public import proofs.«01_k».proof.Proof.Gen.KernelIdeal.Skeleton

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! The first part of a run: the fetches are started, and the other devices are signalled. -/

variable {F : FTy → Type} [FloatOps F]

local notation "𝕄" => MT nD τ sig Unit (Elt F) ℕ UU ℕ

variable (m : (ℓ : Loc nD τ sig) → Buf (Elt F) ℓ) (K : Dev nD × Fin 7 → ℕ)

/-- One signalling step before the rest of a run. -/
theorem sig_next {c : Dev nD} (j : ℕ) (hj : j < 32) {cnd : BitVec 1} (hc : cnd = 1#1 ↔ j ≠ c.val)
    {dv : cnd = 1#1 → Dev nD} (hd : ∀ h, (dv h).val = j)
    {α : Type} {k : Prog (TpuEff nD τ sig (Elt F) Λ₀ .tc) α} {Q : α → sProp 𝕄}
    (h : iprop(records m K ∗ SG c (j + 1)) ⊢ WPc c k Q) :
    iprop(records m K ∗ SG c j) ⊢ WPc c (if h : cnd = 1#1 then semSignalWord (dv h) barS 1#32 >>= fun _ => k else k) Q := by
  iintro ⟨#HR, H⟩
  iapply (signal_step m K c j hj cnd hc dv hd k Q) $$ [H]
  · isplitr; · iexact HR
    iexact H
  iintro H
  iapply h
  isplitr; · iexact HR
  iexact H

variable (c : Dev nD) (hx : xM.IsWhole) (ha : aM.IsWhole) (oM : Memref sig .tc .vmem S2048x64 .f32) (ho : oM.IsWhole)
  (hw : wM.IsWhole) (hy : yM.IsWhole) (hr : rM.IsWhole) (s6 : DmaSems sig S4) (s7 s8 : DmaSems sig S_)

set_option maxHeartbeats 4000000

/-- The signals of steps 2 to 11. -/
theorem part2_run (v19 : Sems sig S_) (h19 : v19.sem = barS) (k2 : BitVec 32) :
    iprop(records m K ∗ SG c 2) ⊢ WPc c (k0_part2 (F := F) xM hx aM ha oM ho wM hw yM hy rM hr s6 s7 s8 c (pos c)
      v19 k2) (fun _ => SG c 12) := by
  rw [k0_part2_eq_skeleton]
  unfold k0_part2_skel
  rw [h19]
  refine sig_next m K 2 (by decide) (cnd := k0_cond3 c) (dv := fun h => ⟨k0_dev3, k0_dev3_lt c h⟩) (other_iff c 2 (by decide)) (fun _ => k0_dev3_eq) ?_
  refine sig_next m K 3 (by decide) (cnd := k0_cond4 c) (dv := fun h => ⟨k0_dev4, k0_dev4_lt c h⟩) (other_iff c 3 (by decide)) (fun _ => k0_dev4_eq) ?_
  refine sig_next m K 4 (by decide) (cnd := k0_cond5 c) (dv := fun h => ⟨k0_dev5, k0_dev5_lt c h⟩) (other_iff c 4 (by decide)) (fun _ => k0_dev5_eq) ?_
  refine sig_next m K 5 (by decide) (cnd := k0_cond6 c) (dv := fun h => ⟨k0_dev6, k0_dev6_lt c h⟩) (other_iff c 5 (by decide)) (fun _ => k0_dev6_eq) ?_
  refine sig_next m K 6 (by decide) (cnd := k0_cond7 c) (dv := fun h => ⟨k0_dev7, k0_dev7_lt c h⟩) (other_iff c 6 (by decide)) (fun _ => k0_dev7_eq) ?_
  refine sig_next m K 7 (by decide) (cnd := k0_cond8 c) (dv := fun h => ⟨k0_dev8, k0_dev8_lt c h⟩) (other_iff c 7 (by decide)) (fun _ => k0_dev8_eq) ?_
  refine sig_next m K 8 (by decide) (cnd := k0_cond9 c) (dv := fun h => ⟨k0_dev9, k0_dev9_lt c h⟩) (other_iff c 8 (by decide)) (fun _ => k0_dev9_eq) ?_
  refine sig_next m K 9 (by decide) (cnd := k0_cond10 c) (dv := fun h => ⟨k0_dev10, k0_dev10_lt c h⟩) (other_iff c 9 (by decide)) (fun _ => k0_dev10_eq) ?_
  refine sig_next m K 10 (by decide) (cnd := k0_cond11 c) (dv := fun h => ⟨k0_dev11, k0_dev11_lt c h⟩) (other_iff c 10 (by decide)) (fun _ => k0_dev11_eq) ?_
  refine sig_next m K 11 (by decide) (cnd := k0_cond12 c) (dv := fun h => ⟨k0_dev12, k0_dev12_lt c h⟩) (other_iff c 11 (by decide)) (fun _ => k0_dev12_eq) ?_
  exact end_of_run m K _

/-- The signals of steps 12 to 21. -/
theorem part3_run (v19 : Sems sig S_) (h19 : v19.sem = barS) (k2 : BitVec 32) :
    iprop(records m K ∗ SG c 12) ⊢ WPc c (k0_part3 (F := F) xM hx aM ha oM ho wM hw yM hy rM hr s6 s7 s8 c (pos c)
      v19 k2) (fun _ => SG c 22) := by
  rw [k0_part3_eq_skeleton]
  unfold k0_part3_skel
  rw [h19]
  refine sig_next m K 12 (by decide) (cnd := k0_cond13 c) (dv := fun h => ⟨k0_dev13, k0_dev13_lt c h⟩) (other_iff c 12 (by decide)) (fun _ => k0_dev13_eq) ?_
  refine sig_next m K 13 (by decide) (cnd := k0_cond14 c) (dv := fun h => ⟨k0_dev14, k0_dev14_lt c h⟩) (other_iff c 13 (by decide)) (fun _ => k0_dev14_eq) ?_
  refine sig_next m K 14 (by decide) (cnd := k0_cond15 c) (dv := fun h => ⟨k0_dev15, k0_dev15_lt c h⟩) (other_iff c 14 (by decide)) (fun _ => k0_dev15_eq) ?_
  refine sig_next m K 15 (by decide) (cnd := k0_cond16 c) (dv := fun h => ⟨k0_dev16, k0_dev16_lt c h⟩) (other_iff c 15 (by decide)) (fun _ => k0_dev16_eq) ?_
  refine sig_next m K 16 (by decide) (cnd := k0_cond17 c) (dv := fun h => ⟨k0_dev17, k0_dev17_lt c h⟩) (other_iff c 16 (by decide)) (fun _ => k0_dev17_eq) ?_
  refine sig_next m K 17 (by decide) (cnd := k0_cond18 c) (dv := fun h => ⟨k0_dev18, k0_dev18_lt c h⟩) (other_iff c 17 (by decide)) (fun _ => k0_dev18_eq) ?_
  refine sig_next m K 18 (by decide) (cnd := k0_cond19 c) (dv := fun h => ⟨k0_dev19, k0_dev19_lt c h⟩) (other_iff c 18 (by decide)) (fun _ => k0_dev19_eq) ?_
  refine sig_next m K 19 (by decide) (cnd := k0_cond20 c) (dv := fun h => ⟨k0_dev20, k0_dev20_lt c h⟩) (other_iff c 19 (by decide)) (fun _ => k0_dev20_eq) ?_
  refine sig_next m K 20 (by decide) (cnd := k0_cond21 c) (dv := fun h => ⟨k0_dev21, k0_dev21_lt c h⟩) (other_iff c 20 (by decide)) (fun _ => k0_dev21_eq) ?_
  refine sig_next m K 21 (by decide) (cnd := k0_cond22 c) (dv := fun h => ⟨k0_dev22, k0_dev22_lt c h⟩) (other_iff c 21 (by decide)) (fun _ => k0_dev22_eq) ?_
  exact end_of_run m K _

/-- The signals of steps 22 to 31. -/
theorem part4_run (v19 : Sems sig S_) (h19 : v19.sem = barS) (k2 : BitVec 32) :
    iprop(records m K ∗ SG c 22) ⊢ WPc c (k0_part4 (F := F) xM hx aM ha oM ho wM hw yM hy rM hr s6 s7 s8 c (pos c)
      v19 k2) (fun _ => SG c 32) := by
  rw [k0_part4_eq_skeleton]
  unfold k0_part4_skel
  rw [h19]
  refine sig_next m K 22 (by decide) (cnd := k0_cond23 c) (dv := fun h => ⟨k0_dev23, k0_dev23_lt c h⟩) (other_iff c 22 (by decide)) (fun _ => k0_dev23_eq) ?_
  refine sig_next m K 23 (by decide) (cnd := k0_cond24 c) (dv := fun h => ⟨k0_dev24, k0_dev24_lt c h⟩) (other_iff c 23 (by decide)) (fun _ => k0_dev24_eq) ?_
  refine sig_next m K 24 (by decide) (cnd := k0_cond25 c) (dv := fun h => ⟨k0_dev25, k0_dev25_lt c h⟩) (other_iff c 24 (by decide)) (fun _ => k0_dev25_eq) ?_
  refine sig_next m K 25 (by decide) (cnd := k0_cond26 c) (dv := fun h => ⟨k0_dev26, k0_dev26_lt c h⟩) (other_iff c 25 (by decide)) (fun _ => k0_dev26_eq) ?_
  refine sig_next m K 26 (by decide) (cnd := k0_cond27 c) (dv := fun h => ⟨k0_dev27, k0_dev27_lt c h⟩) (other_iff c 26 (by decide)) (fun _ => k0_dev27_eq) ?_
  refine sig_next m K 27 (by decide) (cnd := k0_cond28 c) (dv := fun h => ⟨k0_dev28, k0_dev28_lt c h⟩) (other_iff c 27 (by decide)) (fun _ => k0_dev28_eq) ?_
  refine sig_next m K 28 (by decide) (cnd := k0_cond29 c) (dv := fun h => ⟨k0_dev29, k0_dev29_lt c h⟩) (other_iff c 28 (by decide)) (fun _ => k0_dev29_eq) ?_
  refine sig_next m K 29 (by decide) (cnd := k0_cond30 c) (dv := fun h => ⟨k0_dev30, k0_dev30_lt c h⟩) (other_iff c 29 (by decide)) (fun _ => k0_dev30_eq) ?_
  refine sig_next m K 30 (by decide) (cnd := k0_cond31 c) (dv := fun h => ⟨k0_dev31, k0_dev31_lt c h⟩) (other_iff c 30 (by decide)) (fun _ => k0_dev31_eq) ?_
  refine sig_next m K 31 (by decide) (cnd := k0_cond32 c) (dv := fun h => ⟨k0_dev32, k0_dev32_lt c h⟩) (other_iff c 31 (by decide)) (fun _ => k0_dev32_eq) ?_
  exact end_of_run m K _

end Cert.KernelIdeal.Gen
-- ==== Proof.Fetches.lean ====
module
public import proofs.«01_k».proof.Proof.Waits
public import proofs.«01_k».proof.Proof.Signals

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The fetches of the weights and the first partial products. -/

variable {F : FTy → Type} [FloatOps F]

local notation "𝕄" => MT nD τ sig Unit (Elt F) ℕ UU ℕ

variable (m : (ℓ : Loc nD τ sig) → Buf (Elt F) ℓ) (K : Dev nD × Fin 7 → ℕ)

/-- The staged block of the first argument on device `c`. -/
def xPts (c : Dev nD) : sProp 𝕄 := (c : Thread nD τ).loc cc0_stg0_0 ↦{fullShare} xstg m c

/-- What waiting for fetch `r` takes. -/
def fetchWait (c : Dev nD) (r : Fin 4) : sProp 𝕄 :=
  iprop(cred (tallyAt (fetchCell c r) () Nw) ∗ atPos ER (fetchCell c r) 0 ∅ 0)

/-- What fetch `r` leaves: its cell closed, the row block copied and the argument's. -/
def fetched (c : Dev nD) (r : Fin 4) : sProp 𝕄 := iprop(semVal (fetchCell c r) 0 ∗ fetchPay m c r)

/-- 512 rows and 1024 columns starting at row `512 r` lie within row block `r`. -/
theorem part_in_row (r : Fin 4) (off : Fin 2 → ℕ) (hoff : off = ![512 * r.val, 0])
    (h : ∀ a, off a + S512x1024.size a ≤ S2048x2048.size a) :
    (wM.access (Rect.unit (s := S2048x2048) off S512x1024.size h)).set ⊆ rowSet r := by
  refine ((View.set_slice_whole cc0_scratch0 _).trans_subset ?_)
  subst hoff
  intro i hi
  rw [Rect.mem_set_unit] at hi
  rw [mem_rowSet]
  have h0 : 512 * r.val ≤ (i 0).val ∧ (i 0).val < 512 * r.val + 512 := hi 0
  omega

/-- One fetch waited for, then its columns of the staged block and its rows of the weights loaded. -/
theorem chunk_step (c : Dev nD) (r : Fin 4) (off : Fin 2 → ℕ) (h h' : ∀ a, off a + S512x2048.size a ≤ S2048x2048.size a)
    (sem : DmaSem sig) (hsem : SemLoc.dma sem = csem (fk r)) {hsrc} {hdst}
    (offx : Fin 2 → ℕ) (hx : ∀ a, offx a + S64x512.size a ≤ S64x2048.size a)
    (offw : Fin 2 → ℕ) (hoffw : offw = ![512 * r.val, 0]) (hw : ∀ a, offw a + S512x1024.size a ≤ S2048x2048.size a) {hl} {hl'}
    {α : Type} (k : Vec F S64x512 .f32 → Vec F S512x1024 .f32 → Prog (TpuEff nD τ sig (Elt F) Λ₀ .tc) α) (Q : α → sProp 𝕄) :
    iprop(records m K ∗ fetchWait c r ∗ xPts m c ∗ ow c (oR c 0))
      ⊢ iprop((iprop(fetched m c r ∗ xPts m c ∗ ow c (oR c 0)) -∗ WPc c (k (xPart m c offx hx) (wPart m c offw hw)) Q)
        -∗ WPc c (Prog.lift (.waitDma2 sem (rowM aM off h) (rowM wM off h') hsrc hdst) >>= fun _ =>
            Prog.lift (.load xM (Rect.unit (s := S64x2048) offx S64x512.size hx).toLoadRect hl) >>= fun vx =>
            Prog.lift (.load wM (Rect.unit (s := S2048x2048) offw S512x1024.size hw).toLoadRect hl') >>= fun vw => k vx vw) Q) := by
  unfold fetchWait fetched
  iintro ⟨#HR, ⟨Hc, Hat⟩, Hx, HO⟩ Hk
  iapply (fetch_wait m K c r off h h' sem hsem _ Q) $$ [Hc Hat HO]
  · isplitr; · iexact HR
    isplitl [Hc]; · iexact Hc
    isplitl [Hat]; · iexact Hat
    iexact HO
  unfold fetchPay
  iintro ⟨Hz, ⟨Hw, Ha⟩, HO⟩
  simp only [Prog.lift, Prog.bind_op, Prog.bind_ret]
  unfold xPts
  iapply (wp_load 𝒱₀ (c : Thread nD τ) none Set.univ (m := xM) (Finset.subset_univ _)) $$ Hx
  iintro Hx
  unfold wP
  iapply (wp_load 𝒱₀ (c : Thread nD τ) none Set.univ (m := wM) (S := rowSet r) (by
    have hS := part_in_row r offw hoffw hw
    rwa [View.set_slice] at hS)) $$ Hw
  iintro Hw
  iapply Hk
  isplitl [Hz Hw Ha]
  · isplitl [Hz]; · iexact Hz
    isplitl [Hw] <;> iassumption
  isplitl [Hx]; · iexact Hx
  iexact HO

variable (c : Dev nD) (hx : xM.IsWhole) (ha : aM.IsWhole) (oM : Memref sig .tc .vmem S2048x64 .f32) (ho : oM.IsWhole)
  (hw : wM.IsWhole) (hy : yM.IsWhole) (hr : rM.IsWhole) (s7 s8 : DmaSems sig S_)

set_option maxHeartbeats 4000000

/-- What the four fetches need. -/
def fetches (c : Dev nD) : sProp 𝕄 := iprop(fetchPre m c 0 ∗ fetchPre m c 1 ∗ fetchPre m c 2 ∗ fetchPre m c 3)
/-- The credits of the four fetches. -/
def fetchCreds (c : Dev nD) : sProp 𝕄 :=
  iprop(cred (tallyAt (fetchCell c 0) () Nw) ∗ cred (tallyAt (fetchCell c 1) () Nw)
    ∗ cred (tallyAt (fetchCell c 2) () Nw) ∗ cred (tallyAt (fetchCell c 3) () Nw))

/-- The four fetches started and the first two steps' signals. -/
theorem part1_run :
    iprop(records m K ∗ fetches m c ∗ SG c 0) ⊢ WPc c (k0_part1 (F := F) xM hx aM ha oM ho wM hw yM hy rM hr cc0_scratch3 s7 s8)
      (fun v => iprop(⌜v = ⟨c, pos c, SemArray.scalar (sig.barrier 0 rfl), 2#32⟩⌝ ∗ fetchCreds c ∗ SG c 2)) := by
  rw [k0_part1_eq_skeleton]
  unfold k0_part1_skel fetches fetchCreds
  simp only [Prog.lift, Prog.bind_op, Prog.bind_ret, wp_deviceId]
  iintro ⟨#HR, ⟨H0, H1, H2, H3⟩, HS⟩
  iapply (fetch_step m K c 0 ![0, 0] rfl inb_S2048x2048_S512x2048_0_0 inb_S2048x2048_S512x2048_0_0 (csem 3) rfl _ _) $$ [H0]
  · isplitr; · iexact HR
    iexact H0
  iintro H0
  iapply (fetch_step m K c 1 ![512, 0] rfl inb_S2048x2048_S512x2048_512_0 inb_S2048x2048_S512x2048_512_0 (csem 4) rfl _ _) $$ [H1]
  · isplitr; · iexact HR
    iexact H1
  iintro H1
  iapply (fetch_step m K c 2 ![1024, 0] rfl inb_S2048x2048_S512x2048_1024_0 inb_S2048x2048_S512x2048_1024_0 (csem 5) rfl _ _) $$ [H2]
  · isplitr; · iexact HR
    iexact H2
  iintro H2
  iapply (fetch_step m K c 3 ![1536, 0] rfl inb_S2048x2048_S512x2048_1536_0 inb_S2048x2048_S512x2048_1536_0 (csem 6) rfl _ _) $$ [H3]
  · isplitr; · iexact HR
    iexact H3
  iintro H3
  iapply (signal_step m K c 0 (by decide) (k0_cond1 c) (other_iff c 0 (by decide)) (fun h => ⟨k0_dev1, k0_dev1_lt c h⟩) (fun _ => k0_dev1_eq) _ _) $$ [HS]
  · isplitr; · iexact HR
    iexact HS
  iintro HS
  iapply (signal_step m K c 1 (by decide) (k0_cond2 c) (other_iff c 1 (by decide)) (fun h => ⟨k0_dev2, k0_dev2_lt c h⟩) (fun _ => k0_dev2_eq) _ _) $$ [HS]
  · isplitr; · iexact HR
    iexact HS
  iintro HS
  iapply (end_with m K (φ := fun v => v = ⟨c, pos c, SemArray.scalar (sig.barrier 0 rfl), 2#32⟩) ⟨c, pos c, SemArray.scalar (sig.barrier 0 rfl), 2#32⟩ rfl)
  isplitr; · iexact HR
  isplitl [H0 H1 H2 H3]
  · isplitl [H0]; · iexact H0
    isplitl [H1]; · iexact H1
    isplitl [H2] <;> iassumption
  iexact HS

/-- The first three partial products, each as its fetch lands. -/
theorem part5_run :
    iprop(records m K ∗ (fetchWait c 0 ∗ fetchWait c 1 ∗ fetchWait c 2) ∗ xPts m c ∗ ow c (oR c 0))
      ⊢ WPc c (k0_part5 (F := F) xM hx aM ha oM ho wM hw yM hy rM hr cc0_scratch3 s7 s8)
      (fun v => iprop(⌜v = yaSum m c⌝ ∗ (fetched m c 0 ∗ fetched m c 1 ∗ fetched m c 2) ∗ xPts m c ∗ ow c (oR c 0))) := by
  rw [k0_part5_eq_skeleton]
  unfold k0_part5_skel
  iintro ⟨#HR, ⟨H0, H1, H2⟩, Hx, HO⟩
  iapply (chunk_step m K c 0 ![0, 0] inb_S2048x2048_S512x2048_0_0 inb_S2048x2048_S512x2048_0_0 (2 : Fin 8) rfl
    ![0, 0] inb_S64x2048_S64x512_0_0 ![0, 0] rfl inb_S2048x2048_S512x1024_0_0 _ _) $$ [H0 Hx HO]
  · isplitr; · iexact HR
    isplitl [H0]; · iexact H0
    isplitl [Hx] <;> iassumption
  iintro ⟨H0, Hx, HO⟩
  iapply (chunk_step m K c 1 ![512, 0] inb_S2048x2048_S512x2048_512_0 inb_S2048x2048_S512x2048_512_0 (3 : Fin 8) rfl
    ![0, 512] inb_S64x2048_S64x512_0_512 ![512, 0] rfl inb_S2048x2048_S512x1024_512_0 _ _) $$ [H1 Hx HO]
  · isplitr; · iexact HR
    isplitl [H1]; · iexact H1
    isplitl [Hx] <;> iassumption
  iintro ⟨H1, Hx, HO⟩
  iapply (chunk_step m K c 2 ![1024, 0] inb_S2048x2048_S512x2048_1024_0 inb_S2048x2048_S512x2048_1024_0 (4 : Fin 8) rfl
    ![0, 1024] inb_S64x2048_S64x512_0_1024 ![1024, 0] rfl inb_S2048x2048_S512x1024_1024_0 _ _) $$ [H2 Hx HO]
  · isplitr; · iexact HR
    isplitl [H2]; · iexact H2
    isplitl [Hx] <;> iassumption
  iintro ⟨H2, Hx, HO⟩
  iapply (end_with m K (φ := fun v => v = yaSum m c) (yaSum m c) rfl)
  isplitr; · iexact HR
  isplitl [H0 H1 H2]
  · isplitl [H0]; · iexact H0
    isplitl [H1] <;> iassumption
  isplitl [Hx] <;> iassumption

end Cert.KernelIdeal.Gen
-- ==== Proof.Middle.lean ====
module
public import proofs.«01_k».proof.Proof.Fetches

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! Past the barrier: what the tiles need comes together, and the two products' first tiles. -/

variable {F : FTy → Type} [FloatOps F]

local notation "𝕄" => MT nD τ sig Unit (Elt F) ℕ UU ℕ

variable (m : (ℓ : Loc nD τ sig) → Buf (Elt F) ℓ) (K : Dev nD × Fin 7 → ℕ)

/-- One member of a family taken out. -/
theorem bigSep_out {I : Type} [DecidableEq I] [Fintype I] (i : I) (Φ : I → sProp 𝕄) :
    bigSep Finset.univ Φ = iprop(Φ i ∗ bigSep (Finset.univ.erase i) Φ) := BI.bigSep_erase (Finset.mem_univ i)

/-- A family of pairs is a pair of families. -/
theorem bigSep_pair {I : Type} (s : Finset I) (Φ Ψ : I → sProp 𝕄) :
    (bigSep s fun i => iprop(Φ i ∗ Ψ i)) = iprop(bigSep s Φ ∗ bigSep s Ψ) := BI.bigSep_sep s Φ Ψ

/-- What the sends need beside the landing slots: the tokens of the duties they pay. -/
def sendToks (c : Dev nD) : sProp 𝕄 :=
  bigSep (Finset.univ.erase c) fun i : Dev nD => iprop(dutyTok ER (sendCell c) 0 i ∗ dutyTok ER (recvCell i) 0 c)
/-- The slots of the buffer of tiles, whatever they hold. -/
def ySlots (c : Dev nD) : sProp 𝕄 := bigSep Finset.univ fun i : Dev nD => iprop(∃ f, yP c i f)
/-- The device's own landing slot. -/
def ownSlot (c : Dev nD) : sProp 𝕄 := iprop(∃ f, rP c c f)

/-- Past the barrier a device holds what all its tiles need. -/
theorem gather (c : Dev nD) :
    iprop((bigSep (Finset.univ.erase c) fun d : Dev nD => iprop(∃ f, rP d c f)) ∗ (ownSlot c ∗ sendToks c ∗ ySlots c) ∗ ow c (oR c 0))
      ⊢ T0 (F := F) m c 0 := by
  unfold T0 from' upto sendToks ySlots ownSlot
  rw [show (Finset.univ.filter fun i : Dev nD => i.val < 0) = ∅ from by ext i; simp, BI.bigSep_empty,
    show (Finset.univ.filter fun i : Dev nD => 0 ≤ i.val) = Finset.univ from by ext i; simp]
  have ht : (bigSep Finset.univ (todo c) : sProp 𝕄) = iprop((bigSep Finset.univ fun i : Dev nD => iprop(∃ f, yP c i f))
      ∗ (∃ f, rP c c f) ∗ (bigSep (Finset.univ.erase c) fun d : Dev nD => iprop(∃ f, rP d c f))
        ∗ bigSep (Finset.univ.erase c) fun i : Dev nD => iprop(dutyTok ER (sendCell c) 0 i ∗ dutyTok ER (recvCell i) 0 c)) := by
    show bigSep Finset.univ (fun i => iprop((∃ f, yP c i f) ∗ beside c i)) = _
    rw [bigSep_pair, bigSep_out c (beside c), ← bigSep_pair]
    congr 2
    · unfold beside; rw [if_pos rfl]
    · refine BI.bigSep_congr fun i hi => ?_
      unfold beside; rw [if_neg (Finset.ne_of_mem_erase hi)]
  rw [ht]
  iintro ⟨Hr, ⟨Hown, Ht, Hy⟩, HO⟩
  isplitl [Hr Hown Ht Hy]
  · isplitl [Hy]; · iexact Hy
    isplitl [Hown]; · iexact Hown
    isplitl [Hr] <;> iassumption
  isplitr; · iempintro
  iexact HO

/-- The four row blocks of the copy of the weights are the whole of it. -/
theorem weights_join (c : Dev nD) :
    (bigSep Finset.univ fun r : Fin 4 => wP c r (wbuf m c)) = ((c : Thread nD τ).loc cc0_scratch0 ↦{fullShare} wbuf m c : sProp 𝕄) := by
  unfold wP
  refine (pointsTo_biUnion (ℓ := (c : Thread nD τ).loc cc0_scratch0) (q := fullShare) (f := wbuf m c) Finset.univ rowSet rows_disjoint).symm.trans ?_
  exact congrArg (fun S => ((c : Thread nD τ).loc cc0_scratch0 ↦[S]{fullShare} wbuf m c : sProp 𝕄)) rows_cover

/-- The four row blocks of the weights argument are the whole of it. -/
theorem argument_join (c : Dev nD) :
    (bigSep Finset.univ fun r : Fin 4 => aP m c r) = ((c : Thread nD τ).loc main_arg1 ↦{fullShare} wbuf m c : sProp 𝕄) := by
  unfold aP
  refine (pointsTo_biUnion (ℓ := (c : Thread nD τ).loc main_arg1) (q := fullShare) (f := wbuf m c) Finset.univ rowSet rows_disjoint).symm.trans ?_
  exact congrArg (fun S => ((c : Thread nD τ).loc main_arg1 ↦[S]{fullShare} wbuf m c : sProp 𝕄)) rows_cover

/-- A family over four. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The copy of the weights, whole. -/
def wPts (c : Dev nD) : sProp 𝕄 := (c : Thread nD τ).loc cc0_scratch0 ↦{fullShare} wbuf m c
/-- The weights argument, whole. -/
def aPts (c : Dev nD) : sProp 𝕄 := (c : Thread nD τ).loc main_arg1 ↦{fullShare} wbuf m c
/-- The cells of the four fetches, closed. -/
def fetchZeros (c : Dev nD) : sProp 𝕄 :=
  iprop(semVal (fetchCell c 0) 0 ∗ semVal (fetchCell c 1) 0 ∗ semVal (fetchCell c 2) 0 ∗ semVal (fetchCell c 3) 0)

/-- All four fetches landed: the copy of the weights is complete. -/
theorem all_fetched (c : Dev nD) :
    iprop((fetched m c 0 ∗ fetched m c 1 ∗ fetched m c 2) ∗ fetched m c 3) ⊢ iprop(fetchZeros c ∗ wPts m c ∗ aPts m c) := by
  unfold fetched fetchZeros wPts aPts fetchPay
  rw [← weights_join, ← argument_join, bigSep_four, bigSep_four]
  iintro ⟨⟨⟨H0, Hw0, Ha0⟩, ⟨H1, Hw1, Ha1⟩, ⟨H2, Hw2, Ha2⟩⟩, ⟨H3, Hw3, Ha3⟩⟩
  isplitl [H0 H1 H2 H3]
  · isplitl [H0]; · iexact H0
    isplitl [H1]; · iexact H1
    isplitl [H2] <;> iassumption
  isplitl [Hw0 Hw1 Hw2 Hw3]
  · isplitl [Hw0]; · iexact Hw0
    isplitl [Hw1]; · iexact Hw1
    isplitl [Hw2] <;> iassumption
  isplitl [Ha0]; · iexact Ha0
  isplitl [Ha1]; · iexact Ha1
  isplitl [Ha2] <;> iassumption

variable (c : Dev nD) (hx : xM.IsWhole) (ha : aM.IsWhole) (oM : Memref sig .tc .vmem S2048x64 .f32) (ho : oM.IsWhole)
  (hw : wM.IsWhole) (hy : yM.IsWhole) (hr : rM.IsWhole)

set_option maxHeartbeats 4000000

/-- What waiting on the barrier takes. -/
def barWait (c : Dev nD) : sProp 𝕄 := iprop(cred (tallyAt (barCell c) () 31) ∗ atPos ER (barCell c) 0 ∅ 0)

/-- The last partial product, the barrier, and tile 0. -/
theorem part6_run (v19 : Sems sig S_) (h19 : v19.sem = barS) :
    iprop(records m K ∗ (fetchWait c 3 ∗ barWait c ∗ ownSlot c ∗ sendToks c ∗ ySlots c) ∗ xPts m c ∗ ow c (oR c 0))
      ⊢ WPc c (k0_part6 (F := F) xM hx aM ha oM ho wM hw yM hy rM hr cc0_scratch3 cc0_scratch4 cc0_scratch5 c (pos c) v19 (yaSum m c))
      (fun v => iprop(⌜v.1 = yHalf m c false ∧ SliceIs m c 1 (by decide) v.2⌝
        ∗ (fetched m c 3 ∗ semVal (barCell c) 0 ∗ xPts m c) ∗ T0 m c 1)) := by
  rw [k0_part6_eq_skeleton]
  unfold k0_part6_skel
  rw [h19]
  unfold barWait
  iintro ⟨#HR, ⟨H3, ⟨Hc, Hat⟩, Hslot⟩, Hx, HO⟩
  iapply (chunk_step m K c 3 ![1536, 0] inb_S2048x2048_S512x2048_1536_0 inb_S2048x2048_S512x2048_1536_0 (5 : Fin 8) rfl
    ![0, 1536] inb_S64x2048_S64x512_0_1536 ![1536, 0] rfl inb_S2048x2048_S512x1024_1536_0 _ _) $$ [H3 Hx HO]
  · isplitr; · iexact HR
    isplitl [H3]; · iexact H3
    isplitl [Hx] <;> iassumption
  iintro ⟨H3, Hx, HO⟩
  iapply (bar_wait m K c barS rfl _ _) $$ [Hc Hat HO]
  · isplitr; · iexact HR
    isplitl [Hc]; · iexact Hc
    isplitl [Hat] <;> iassumption
  iintro ⟨Hz, Hland, HO⟩
  ihave HT := (gather m c) $$ [Hland Hslot HO]
  · isplitl [Hland]; · iexact Hland
    isplitl [Hslot] <;> iassumption
  iapply (store_step m c 0 (by decide) ![0, 0, 0] rfl inb_S32x64x64_S1x64x64_0_0_0 inb_S32x64x64_S1x64x64_0_0_0
    (k0_pay4 (yaSum m c) (xPart m c ![0, 1536] inb_S64x2048_S64x512_0_1536) (wPart m c ![1536, 0] inb_S2048x2048_S512x1024_1536_0))
    (tile_of_slice m (slice_of_half m (y := yaOf m c) (by decide) rfl (o := 0) rfl slices_S64x1024_o0_0_S64x64) _) _ _) $$ HT
  iintro HT
  iapply (send_step m K c 0 (by decide) (k0_cond33 c) (other_iff c 0 (by decide)) (fun h => ⟨k0_dev33, k0_dev33_lt c h⟩) (fun _ => k0_dev33_eq)
    ![0, 0, 0] (k0_off1 c) rfl (k0_off1_eq c) inb_S32x64x64_S1x64x64_0_0_0 (k0_off1_inb c) _ _) $$ [HT]
  · isplitr; · iexact HR
    iexact HT
  iintro HT
  iapply (own_step m c 0 _ _ (own_iff c 0 (by decide)) ![0, 0, 0] rfl inb_S32x64x64_S1x64x64_0_0_0 inb_S32x64x64_S1x64x64_0_0_0
    inb_S32x64x64_S1x64x64_0_0_0 k0_pay5 (fun v => there_and_back v _ _) _ _) $$ HT
  iintro HT
  iapply (end_with m K (φ := fun v : (Σ' (_ : FVec F S64x1024 .bf16), FVec F S64x64 .bf16) => v.1 = yHalf m c false ∧ SliceIs m c 1 (Nat.le_of_ble_eq_true rfl) v.2) _
    ⟨rfl, slice_of_half m (y := yaOf m c) (by decide) rfl (o := 64) rfl slices_S64x1024_o0_64_S64x64⟩)
  isplitr; · iexact HR
  isplitl [H3 Hz Hx]
  · isplitl [H3]; · iexact H3
    isplitl [Hz] <;> iassumption
  iexact HT

/-- The right half's product, tile 16, and tile 17 as far as its send. -/
theorem part12_run :
    iprop(records m K ∗ (xPts m c ∗ wPts m c) ∗ T0 m c 16)
      ⊢ WPc c (k0_part12 (F := F) xM hx aM ha oM ho wM hw yM hy rM hr cc0_scratch3 cc0_scratch4 cc0_scratch5 c (pos c))
      (fun v => iprop(⌜v = yHalf m c true⌝ ∗ (xPts m c ∗ wPts m c) ∗ T2 m c 17 (by decide))) := by
  rw [k0_part12_eq_skeleton]
  unfold k0_part12_skel xPts wPts
  iintro ⟨#HR, ⟨Hx, Hw⟩, HT⟩
  simp only [Prog.lift, Prog.bind_op, Prog.bind_ret]
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  iapply (store_step m c 16 (by decide) ![16, 0, 0] rfl inb_S32x64x64_S1x64x64_16_0_0 inb_S32x64x64_S1x64x64_16_0_0
    (k0_pay42 (xWhole m c) (wRight m c))
    (tile_of_slice m (slice_of_half m (y := ybOf m c) (by decide) rfl (o := 0) rfl slices_S64x1024_o0_0_S64x64) _) _ _) $$ HT
  iintro HT
  iapply (send_step m K c 16 (by decide) (k0_cond65 c) (other_iff c 16 (by decide)) (fun h => ⟨k0_dev49, k0_dev49_lt c h⟩) (fun _ => k0_dev49_eq)
    ![16, 0, 0] (k0_off17 c) rfl (k0_off17_eq c) inb_S32x64x64_S1x64x64_16_0_0 (k0_off17_inb c) _ _) $$ [HT]
  · isplitr; · iexact HR
    iexact HT
  iintro HT
  iapply (own_step m c 16 _ _ (own_iff c 16 (by decide)) ![16, 0, 0] rfl inb_S32x64x64_S1x64x64_16_0_0 inb_S32x64x64_S1x64x64_16_0_0
    inb_S32x64x64_S1x64x64_16_0_0 k0_pay43 (fun v => there_and_back v _ _) _ _) $$ HT
  iintro HT
  iapply (store_step m c 17 (by decide) ![17, 0, 0] rfl inb_S32x64x64_S1x64x64_17_0_0 inb_S32x64x64_S1x64x64_17_0_0
    (k0_pay44 (xWhole m c) (wRight m c))
    (tile_of_slice m (slice_of_half m (y := ybOf m c) (by decide) rfl (o := 64) rfl slices_S64x1024_o0_64_S64x64) _) _ _) $$ HT
  iintro HT
  iapply (send_step m K c 17 (by decide) (k0_cond67 c) (other_iff c 17 (by decide)) (fun h => ⟨k0_dev50, k0_dev50_lt c h⟩) (fun _ => k0_dev50_eq)
    ![17, 0, 0] (k0_off18 c) rfl (k0_off18_eq c) inb_S32x64x64_S1x64x64_17_0_0 (k0_off18_inb c) _ _) $$ [HT]
  · isplitr; · iexact HR
    iexact HT
  iintro HT
  iapply (end_with m K (φ := fun v => v = yHalf m c true) _ (show k0_pay41 (xWhole m c) (wRight m c) = _ from rfl))
  isplitr; · iexact HR
  isplitl [Hx Hw]
  · isplitl [Hx] <;> iassumption
  iexact HT

end Cert.KernelIdeal.Gen
-- ==== Proof.Finish.lean ====
module
public import proofs.«01_k».proof.Proof.Middle

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The end of a run: the last tiles, the receives, the result, and the sends waited for. -/

variable {F : FTy → Type} [FloatOps F]

local notation "𝕄" => MT nD τ sig Unit (Elt F) ℕ UU ℕ

variable (m : (ℓ : Loc nD τ sig) → Buf (Elt F) ℓ) (K : Dev nD × Fin 7 → ℕ)

/-- All tiles dealt with: nothing is left to do and nothing owed. -/
theorem all_done (c : Dev nD) : T0 (F := F) m c 32 ⊢ iprop(upto m c 32 ∗ ow c 0) := by
  unfold T0 from'
  rw [show (Finset.univ.filter fun i : Dev nD => 32 ≤ i.val) = ∅ from by
      ext i; have : i.val < 32 := i.isLt; simp, BI.bigSep_empty,
    show oR c 32 = 0 from oweTo_end recvCell N c 32 (le_refl _)]
  iintro ⟨-, H⟩
  iexact H

/-- What the device's own tile leaves. -/
def ownTile (c : Dev nD) : sProp 𝕄 := iprop(yP c c (Yc m c) ∗ rP c c (Rc m c))

/-- As many equal credits at one cell as a set has members are one credit. -/
theorem sum_credits (g : GSem nD τ sig) (n : ℕ) (s : Finset (Dev nD)) :
    (∑ _i ∈ s, tallyAt g () n : CellTallies nD τ sig Unit) = tallyAt g () (s.card * n) := by
  induction s using Finset.induction_on with
  | empty => rw [Finset.sum_empty, Finset.card_empty, Nat.zero_mul, tallyAt_zero]
  | insert a s ha ih => rw [Finset.sum_insert ha, ih, tallyAt_add, Finset.card_insert_of_notMem ha, Nat.succ_mul, Nat.add_comm]

/-- The credits of the 31 sends together, and the device's own tile. -/
theorem settle (c : Dev nD) : upto (F := F) m c 32 = iprop(ownTile m c ∗ cred (tallyAt (sendCell c) () (31 * N))) := by
  unfold upto
  rw [show (Finset.univ.filter fun i : Dev nD => i.val < 32) = Finset.univ from by
      ext i; have : i.val < 32 := i.isLt; simp, bigSep_out c (done m c)]
  congr 1
  · unfold done ownTile; rw [if_pos rfl]
  · rw [← card_others c, ← sum_credits, Pipeline.cred_finsetSum]
    refine BI.bigSep_congr fun i hi => ?_
    unfold done; rw [if_neg (Finset.ne_of_mem_erase hi)]

/-- The buffer of received tiles, whole and complete. -/
def rPts (c : Dev nD) : sProp 𝕄 := (c : Thread nD τ).loc cc0_scratch2 ↦{fullShare} Rc m c

/-- The slot a device fills itself and the 31 that the others fill are its whole receive buffer. -/
theorem received_join (c : Dev nD) :
    iprop(rP c c (Rc m c) ∗ bigSep (Finset.univ.erase c) fun d : Dev nD => rP c d (Rc m c)) = rPts m c := by
  rw [← bigSep_out c (fun d : Dev nD => rP c d (Rc m c))]
  unfold rP rPts
  refine (pointsTo_biUnion (ℓ := (c : Thread nD τ).loc cc0_scratch2) (q := fullShare) (f := Rc m c) Finset.univ slotSet slots_disjoint).symm.trans ?_
  exact congrArg (fun S => ((c : Thread nD τ).loc cc0_scratch2 ↦[S]{fullShare} Rc m c : sProp 𝕄)) slots_cover

/-- The buffer of tiles, whole. -/
def yPts (c : Dev nD) : sProp 𝕄 := (c : Thread nD τ).loc cc0_scratch1 ↦{fullShare} Yc m c

/-- The tile a device keeps and the 31 that it has sent are its whole buffer of tiles. -/
theorem sent_join (c : Dev nD) :
    iprop(yP c c (Yc m c) ∗ bigSep (Finset.univ.erase c) fun d : Dev nD => yP c d (Yc m c)) = yPts m c := by
  rw [← bigSep_out c (fun d : Dev nD => yP c d (Yc m c))]
  unfold yP yPts
  refine (pointsTo_biUnion (ℓ := (c : Thread nD τ).loc cc0_scratch1) (q := fullShare) (f := Yc m c) Finset.univ slotSet slots_disjoint).symm.trans ?_
  exact congrArg (fun S => ((c : Thread nD τ).loc cc0_scratch1 ↦[S]{fullShare} Yc m c : sProp 𝕄)) slots_cover

variable (c : Dev nD) (hx : xM.IsWhole) (ha : aM.IsWhole) (oM : Memref sig .tc .vmem S2048x64 .f32) (ho : oM.IsWhole)
  (hw : wM.IsWhole) (hy : yM.IsWhole) (hr : rM.IsWhole) (s6 : DmaSems sig S4)

/-- What waiting for the receives takes. -/
def recvWait (c : Dev nD) : sProp 𝕄 := iprop(cred (tallyAt (recvCell c) () (31 * N)) ∗ atPos ER (recvCell c) 0 ∅ 0)

set_option maxHeartbeats 4000000 in
/-- The last tiles, and the receives waited for. -/
theorem part17_run :
    iprop(records m K ∗ recvWait c ∗ T2 m c 29 (by decide))
      ⊢ WPc c (k0_part17 (F := F) xM hx aM ha oM ho wM hw yM hy rM hr s6 cc0_scratch4 cc0_scratch5 c (pos c) (yHalf m c true))
      (fun _ => iprop(rPts m c ∗ semVal (recvCell c) 0 ∗ yP c c (Yc m c) ∗ cred (tallyAt (sendCell c) () (31 * N)) ∗ ow c 0)) := by
  rw [k0_part17_eq_skeleton]
  unfold k0_part17_skel recvWait
  iintro ⟨#HR, ⟨Hc, Hat⟩, HT⟩
  iapply (own_step m c 29 _ _ (own_iff c 29 (by decide)) ![29, 0, 0] rfl inb_S32x64x64_S1x64x64_29_0_0 inb_S32x64x64_S1x64x64_29_0_0
    inb_S32x64x64_S1x64x64_29_0_0 k0_pay69 (fun v => there_and_back v _ _) _ _) $$ HT
  iintro HT
  iapply (store_step m c 30 (by decide) ![30, 0, 0] rfl inb_S32x64x64_S1x64x64_30_0_0 inb_S32x64x64_S1x64x64_30_0_0
    (k0_pay70 (yHalf m c true)) (tile_of_slice m (slice_of_half m (by decide) rfl (o := 896) rfl slices_S64x1024_o0_896_S64x64) _) _ _) $$ HT
  iintro HT
  iapply (send_step m K c 30 (by decide) (k0_cond93 c) (other_iff c 30 (by decide)) (fun h => ⟨k0_dev63, k0_dev63_lt c h⟩) (fun _ => k0_dev63_eq)
    ![30, 0, 0] (k0_off31 c) rfl (k0_off31_eq c) inb_S32x64x64_S1x64x64_30_0_0 (k0_off31_inb c) _ _) $$ [HT]
  · isplitr; · iexact HR
    iexact HT
  iintro HT
  iapply (own_step m c 30 _ _ (own_iff c 30 (by decide)) ![30, 0, 0] rfl inb_S32x64x64_S1x64x64_30_0_0 inb_S32x64x64_S1x64x64_30_0_0
    inb_S32x64x64_S1x64x64_30_0_0 k0_pay71 (fun v => there_and_back v _ _) _ _) $$ HT
  iintro HT
  iapply (store_step m c 31 (by decide) ![31, 0, 0] rfl inb_S32x64x64_S1x64x64_31_0_0 inb_S32x64x64_S1x64x64_31_0_0
    (k0_pay72 (yHalf m c true)) (tile_of_slice m (slice_of_half m (by decide) rfl (o := 960) rfl slices_S64x1024_o0_960_S64x64) _) _ _) $$ HT
  iintro HT
  iapply (send_step m K c 31 (by decide) (k0_cond95 c) (other_iff c 31 (by decide)) (fun h => ⟨k0_dev64, k0_dev64_lt c h⟩) (fun _ => k0_dev64_eq)
    ![31, 0, 0] (k0_off32 c) rfl (k0_off32_eq c) inb_S32x64x64_S1x64x64_31_0_0 (k0_off32_inb c) _ _) $$ [HT]
  · isplitr; · iexact HR
    iexact HT
  iintro HT
  iapply (own_step m c 31 _ _ (own_iff c 31 (by decide)) ![31, 0, 0] rfl inb_S32x64x64_S1x64x64_31_0_0 inb_S32x64x64_S1x64x64_31_0_0
    inb_S32x64x64_S1x64x64_31_0_0 k0_pay73 (fun v => there_and_back v _ _) _ _) $$ HT
  iintro HT
  ihave HD := (all_done m c) $$ HT
  rw [settle]
  unfold ownTile
  icases HD with ⟨⟨⟨Hy, Hr⟩, Hs⟩, HO⟩
  iapply (recv_wait m K c _ _) $$ [Hc Hat HO]
  · isplitr; · iexact HR
    isplitl [Hc]; · iexact Hc
    isplitl [Hat] <;> iassumption
  iintro ⟨Hz, Hrs, HO⟩
  ihave Hr := (Entails.of_eq (received_join m c)) $$ [Hr Hrs]
  · isplitl [Hr] <;> iassumption
  iapply (end_of_run m K _)
  isplitr; · iexact HR
  isplitl [Hr]; · iexact Hr
  isplitl [Hz]; · iexact Hz
  isplitl [Hy]; · iexact Hy
  isplitl [Hs] <;> iassumption

/-- The staged block of the result, whole. -/
abbrev oM0 : Memref sig .tc .vmem S2048x64 .f32 := Memref.whole cc0_stg1_0
/-- The staged block of the result on device `c`. -/
def oPts (c : Dev nD) (f : (cc0_stg1_0 : Ref sig .tc).ty.Contents (Elt F)) : sProp 𝕄 := (c : Thread nD τ).loc cc0_stg1_0 ↦{fullShare} f

/-- The origin of two axes. -/
theorem zeros2 : (![0, 0] : Fin 2 → ℕ) = fun _ => 0 := funext fun a => by fin_cases a <;> rfl
/-- The origin of three axes. -/
theorem zeros3 : (![0, 0, 0] : Fin 3 → ℕ) = fun _ => 0 := funext fun a => by fin_cases a <;> rfl

/-- The load of all received tiles. -/
theorem read_received : rM.view.readAt (Elt F) (Rect.unit (s := S32x64x64) ![0, 0, 0] S32x64x64.size inb_S32x64x64_S32x64x64_0_0_0).toLoadRect (Rc m c)
    = Rc m c := Memref.readAt_unit_zero (Elt F) cc0_scratch2 zeros3 _ _

/-- The store of the whole result. -/
theorem write_result (f w : (cc0_stg1_0 : Ref sig .tc).ty.Contents (Elt F)) :
    (oM0.access (Rect.unit (s := S2048x64) ![0, 0] S2048x64.size inb_S2048x64_S2048x64_0_0) : View sig .tc _ _ _).write (Elt F) f w Finset.univ = w :=
  Memref.write_access_unit_zero_univ (Elt F) cc0_stg1_0 zeros2 _ f w

/-- The end of the kernel: the received tiles stored as the result, and the sends waited for. -/
theorem tail_run {hl} {hl'} {hxs} {hm} {hsrc} {hdst} :
    iprop(records m K ∗ (rPts m c ∗ yP c c (Yc m c) ∗ (∃ f, oPts c f)) ∗ cred (tallyAt (sendCell c) () (31 * N)) ∗ atPos ER (sendCell c) 0 ∅ 0 ∗ ow c 0)
      ⊢ WPc c (Prog.lift (.load rM (Rect.unit (s := S32x64x64) ![0, 0, 0] S32x64x64.size inb_S32x64x64_S32x64x64_0_0_0).toLoadRect hl) >>= fun v =>
          Prog.lift (.load oM0 (Rect.unit (s := S2048x64) ![0, 0] S2048x64.size inb_S2048x64_S2048x64_0_0).toLoadRect hl') >>= fun _ =>
          Prog.lift (.store oM0 (Rect.unit (s := S2048x64) ![0, 0] S2048x64.size inb_S2048x64_S2048x64_0_0) (k0_pay1 v) Finset.univ hxs hm) >>= fun _ =>
          Prog.lift (.waitDma2 cc0_scratch4.sem (S31M rM) (S31M yM) hsrc hdst) >>= fun _ => Prog.ret (⟨⟩ : PUnit))
        (fun _ => iprop((rPts m c ∗ yPts m c ∗ oPts c (outAt m c)) ∗ semVal (sendCell c) 0 ∗ ow c 0)) := by
  unfold rPts oPts
  iintro ⟨#HR, ⟨Hr, Hy, ⟨%f, Ho⟩⟩, Hc, Hat, HO⟩
  simp only [Prog.lift, Prog.bind_op, Prog.bind_ret]
  iapply (wp_load 𝒱₀ (c : Thread nD τ) none Set.univ (m := rM) (Finset.subset_univ _)) $$ Hr
  iintro Hr
  rw [read_received]
  iapply (wp_load 𝒱₀ (c : Thread nD τ) none Set.univ (m := oM0) (Finset.subset_univ _)) $$ Ho
  iintro Ho
  iapply (wp_store 𝒱₀ (c : Thread nD τ) none Set.univ (m := oM0) (r := Rect.unit (s := S2048x64) ![0, 0] S2048x64.size inb_S2048x64_S2048x64_0_0)
    (Mk := Finset.univ) (Finset.subset_univ _)) $$ Ho
  iintro Ho
  rw [write_result]
  iapply (send_wait m K c _ _) $$ [Hc Hat HO]
  · isplitr; · iexact HR
    isplitl [Hc]; · iexact Hc
    isplitl [Hat] <;> iassumption
  iintro ⟨Hz, Hys, HO⟩
  ihave Hy := (Entails.of_eq (sent_join m c)) $$ [Hy Hys]
  · isplitl [Hy] <;> iassumption
  iapply (end_of_run m K _)
  isplitr; · iexact HR
  isplitl [Hr Hy Ho]
  · isplitl [Hr]; · iexact Hr
    isplitl [Hy]; · iexact Hy
    iexact Ho
  isplitl [Hz] <;> iassumption

end Cert.KernelIdeal.Gen
-- ==== Proof.TilesLeft.lean ====
module
public import proofs.«01_k».proof.Proof.Runs
public import proofs.«01_k».proof.Proof.Gen.KernelIdeal.Skeleton
public import proofs.«01_k».proof.Proof.Gen.KernelIdeal.Skeleton

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The tiles of the left half of the activations. -/

variable {F : FTy → Type} [FloatOps F]

local notation "𝕄" => MT nD τ sig Unit (Elt F) ℕ UU ℕ

variable (m : (ℓ : Loc nD τ sig) → Buf (Elt F) ℓ) (K : Dev nD × Fin 7 → ℕ)

variable (c : Dev nD) (hx : xM.IsWhole) (ha : aM.IsWhole) (oM : Memref sig .tc .vmem S2048x64 .f32) (ho : oM.IsWhole)
  (hw : wM.IsWhole) (hy : yM.IsWhole) (hr : rM.IsWhole) (s6 : DmaSems sig S4)

set_option maxHeartbeats 4000000

/-- Tiles 1 to 3. -/
theorem part7_run (v175 : FVec F S64x64 .bf16) (hv : SliceIs m c 1 (by decide) v175) :
    iprop(records m K ∗ T0 m c 1) ⊢ WPc c (k0_part7 (F := F) xM hx aM ha oM ho wM hw yM hy rM hr s6 cc0_scratch4 cc0_scratch5 c (pos c)
      (yHalf m c false) v175) (fun v => iprop(⌜SliceIs m c 4 (by decide) v⌝ ∗ T0 m c 4)) := by
  rw [k0_part7_eq_skeleton]
  unfold k0_part7_skel
  refine tile_next m K 1 (by decide) (w := k0_pay7 v175) (tile_of_slice m hv _) (cnd := k0_cond35 c) (other_iff c 1 (by decide))
    (own_iff c 1 (by decide)) (dv := fun h => ⟨k0_dev34, k0_dev34_lt c h⟩) (fun _ => k0_dev34_eq) (k0_off2_eq c)
    (pay := k0_pay8) (fun v => there_and_back v _ _) ?_
  refine tile_next m K 2 (by decide) (w := k0_pay9 (yHalf m c false)) (tile_of_slice m (slice_of_half m (by decide) rfl rfl _) _) (cnd := k0_cond37 c) (other_iff c 2 (by decide))
    (own_iff c 2 (by decide)) (dv := fun h => ⟨k0_dev35, k0_dev35_lt c h⟩) (fun _ => k0_dev35_eq) (k0_off3_eq c)
    (pay := k0_pay10) (fun v => there_and_back v _ _) ?_
  refine tile_next m K 3 (by decide) (w := k0_pay11 (yHalf m c false)) (tile_of_slice m (slice_of_half m (by decide) rfl rfl _) _) (cnd := k0_cond39 c) (other_iff c 3 (by decide))
    (own_iff c 3 (by decide)) (dv := fun h => ⟨k0_dev36, k0_dev36_lt c h⟩) (fun _ => k0_dev36_eq) (k0_off4_eq c)
    (pay := k0_pay12) (fun v => there_and_back v _ _) ?_
  exact end_with m K (φ := SliceIs m c 4 (by decide)) (k0_pay13 (yHalf m c false)) (slice_of_half m (by decide) rfl rfl slices_S64x1024_o0_256_S64x64)

/-- Tiles 4 to 6. -/
theorem part8_run (v205 : FVec F S64x64 .bf16) (hv : SliceIs m c 4 (by decide) v205) :
    iprop(records m K ∗ T0 m c 4) ⊢ WPc c (k0_part8 (F := F) xM hx aM ha oM ho wM hw yM hy rM hr s6 cc0_scratch4 cc0_scratch5 c (pos c)
      (yHalf m c false) v205) (fun v => iprop(⌜SliceIs m c 7 (by decide) v⌝ ∗ T0 m c 7)) := by
  rw [k0_part8_eq_skeleton]
  unfold k0_part8_skel
  refine tile_next m K 4 (by decide) (w := k0_pay14 v205) (tile_of_slice m hv _) (cnd := k0_cond41 c) (other_iff c 4 (by decide))
    (own_iff c 4 (by decide)) (dv := fun h => ⟨k0_dev37, k0_dev37_lt c h⟩) (fun _ => k0_dev37_eq) (k0_off5_eq c)
    (pay := k0_pay15) (fun v => there_and_back v _ _) ?_
  refine tile_next m K 5 (by decide) (w := k0_pay16 (yHalf m c false)) (tile_of_slice m (slice_of_half m (by decide) rfl rfl _) _) (cnd := k0_cond43 c) (other_iff c 5 (by decide))
    (own_iff c 5 (by decide)) (dv := fun h => ⟨k0_dev38, k0_dev38_lt c h⟩) (fun _ => k0_dev38_eq) (k0_off6_eq c)
    (pay := k0_pay17) (fun v => there_and_back v _ _) ?_
  refine tile_next m K 6 (by decide) (w := k0_pay18 (yHalf m c false)) (tile_of_slice m (slice_of_half m (by decide) rfl rfl _) _) (cnd := k0_cond45 c) (other_iff c 6 (by decide))
    (own_iff c 6 (by decide)) (dv := fun h => ⟨k0_dev39, k0_dev39_lt c h⟩) (fun _ => k0_dev39_eq) (k0_off7_eq c)
    (pay := k0_pay19) (fun v => there_and_back v _ _) ?_
  exact end_with m K (φ := SliceIs m c 7 (by decide)) (k0_pay20 (yHalf m c false)) (slice_of_half m (by decide) rfl rfl slices_S64x1024_o0_448_S64x64)

/-- Tiles 7 to 9. -/
theorem part9_run (v235 : FVec F S64x64 .bf16) (hv : SliceIs m c 7 (by decide) v235) :
    iprop(records m K ∗ T0 m c 7) ⊢ WPc c (k0_part9 (F := F) xM hx aM ha oM ho wM hw yM hy rM hr s6 cc0_scratch4 cc0_scratch5 c (pos c)
      (yHalf m c false) v235) (fun v => iprop(⌜SliceIs m c 10 (by decide) v⌝ ∗ T0 m c 10)) := by
  rw [k0_part9_eq_skeleton]
  unfold k0_part9_skel
  refine tile_next m K 7 (by decide) (w := k0_pay21 v235) (tile_of_slice m hv _) (cnd := k0_cond47 c) (other_iff c 7 (by decide))
    (own_iff c 7 (by decide)) (dv := fun h => ⟨k0_dev40, k0_dev40_lt c h⟩) (fun _ => k0_dev40_eq) (k0_off8_eq c)
    (pay := k0_pay22) (fun v => there_and_back v _ _) ?_
  refine tile_next m K 8 (by decide) (w := k0_pay23 (yHalf m c false)) (tile_of_slice m (slice_of_half m (by decide) rfl rfl _) _) (cnd := k0_cond49 c) (other_iff c 8 (by decide))
    (own_iff c 8 (by decide)) (dv := fun h => ⟨k0_dev41, k0_dev41_lt c h⟩) (fun _ => k0_dev41_eq) (k0_off9_eq c)
    (pay := k0_pay24) (fun v => there_and_back v _ _) ?_
  refine tile_next m K 9 (by decide) (w := k0_pay25 (yHalf m c false)) (tile_of_slice m (slice_of_half m (by decide) rfl rfl _) _) (cnd := k0_cond51 c) (other_iff c 9 (by decide))
    (own_iff c 9 (by decide)) (dv := fun h => ⟨k0_dev42, k0_dev42_lt c h⟩) (fun _ => k0_dev42_eq) (k0_off10_eq c)
    (pay := k0_pay26) (fun v => there_and_back v _ _) ?_
  exact end_with m K (φ := SliceIs m c 10 (by decide)) (k0_pay27 (yHalf m c false)) (slice_of_half m (by decide) rfl rfl slices_S64x1024_o0_640_S64x64)

/-- Tiles 10 to 12. -/
theorem part10_run (v265 : FVec F S64x64 .bf16) (hv : SliceIs m c 10 (by decide) v265) :
    iprop(records m K ∗ T0 m c 10) ⊢ WPc c (k0_part10 (F := F) xM hx aM ha oM ho wM hw yM hy rM hr s6 cc0_scratch4 cc0_scratch5 c (pos c)
      (yHalf m c false) v265) (fun v => iprop(⌜SliceIs m c 13 (by decide) v⌝ ∗ T0 m c 13)) := by
  rw [k0_part10_eq_skeleton]
  unfold k0_part10_skel
  refine tile_next m K 10 (by decide) (w := k0_pay28 v265) (tile_of_slice m hv _) (cnd := k0_cond53 c) (other_iff c 10 (by decide))
    (own_iff c 10 (by decide)) (dv := fun h => ⟨k0_dev43, k0_dev43_lt c h⟩) (fun _ => k0_dev43_eq) (k0_off11_eq c)
    (pay := k0_pay29) (fun v => there_and_back v _ _) ?_
  refine tile_next m K 11 (by decide) (w := k0_pay30 (yHalf m c false)) (tile_of_slice m (slice_of_half m (by decide) rfl rfl _) _) (cnd := k0_cond55 c) (other_iff c 11 (by decide))
    (own_iff c 11 (by decide)) (dv := fun h => ⟨k0_dev44, k0_dev44_lt c h⟩) (fun _ => k0_dev44_eq) (k0_off12_eq c)
    (pay := k0_pay31) (fun v => there_and_back v _ _) ?_
  refine tile_next m K 12 (by decide) (w := k0_pay32 (yHalf m c false)) (tile_of_slice m (slice_of_half m (by decide) rfl rfl _) _) (cnd := k0_cond57 c) (other_iff c 12 (by decide))
    (own_iff c 12 (by decide)) (dv := fun h => ⟨k0_dev45, k0_dev45_lt c h⟩) (fun _ => k0_dev45_eq) (k0_off13_eq c)
    (pay := k0_pay33) (fun v => there_and_back v _ _) ?_
  exact end_with m K (φ := SliceIs m c 13 (by decide)) (k0_pay34 (yHalf m c false)) (slice_of_half m (by decide) rfl rfl slices_S64x1024_o0_832_S64x64)

/-- Tiles 13 to 15. -/
theorem part11_run (v295 : FVec F S64x64 .bf16) (hv : SliceIs m c 13 (by decide) v295) :
    iprop(records m K ∗ T0 m c 13) ⊢ WPc c (k0_part11 (F := F) xM hx aM ha oM ho wM hw yM hy rM hr s6 cc0_scratch4 cc0_scratch5 c (pos c)
      (yHalf m c false) v295) (fun _ => T0 m c 16) := by
  rw [k0_part11_eq_skeleton]
  unfold k0_part11_skel
  refine tile_next m K 13 (by decide) (w := k0_pay35 v295) (tile_of_slice m hv _) (cnd := k0_cond59 c) (other_iff c 13 (by decide))
    (own_iff c 13 (by decide)) (dv := fun h => ⟨k0_dev46, k0_dev46_lt c h⟩) (fun _ => k0_dev46_eq) (k0_off14_eq c)
    (pay := k0_pay36) (fun v => there_and_back v _ _) ?_
  refine tile_next m K 14 (by decide) (w := k0_pay37 (yHalf m c false)) (tile_of_slice m (slice_of_half m (by decide) rfl rfl _) _) (cnd := k0_cond61 c) (other_iff c 14 (by decide))
    (own_iff c 14 (by decide)) (dv := fun h => ⟨k0_dev47, k0_dev47_lt c h⟩) (fun _ => k0_dev47_eq) (k0_off15_eq c)
    (pay := k0_pay38) (fun v => there_and_back v _ _) ?_
  refine tile_next m K 15 (by decide) (w := k0_pay39 (yHalf m c false)) (tile_of_slice m (slice_of_half m (by decide) rfl rfl _) _) (cnd := k0_cond63 c) (other_iff c 15 (by decide))
    (own_iff c 15 (by decide)) (dv := fun h => ⟨k0_dev48, k0_dev48_lt c h⟩) (fun _ => k0_dev48_eq) (k0_off16_eq c)
    (pay := k0_pay40) (fun v => there_and_back v _ _) ?_
  exact end_of_run m K _

end Cert.KernelIdeal.Gen
-- ==== Proof.TilesRight.lean ====
module
public import proofs.«01_k».proof.Proof.Runs
public import proofs.«01_k».proof.Proof.Gen.KernelIdeal.Skeleton
public import proofs.«01_k».proof.Proof.Gen.KernelIdeal.Skeleton

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The tiles of the right half of the activations. -/

variable {F : FTy → Type} [FloatOps F]

local notation "𝕄" => MT nD τ sig Unit (Elt F) ℕ UU ℕ

variable (m : (ℓ : Loc nD τ sig) → Buf (Elt F) ℓ) (K : Dev nD × Fin 7 → ℕ)

variable (c : Dev nD) (hx : xM.IsWhole) (ha : aM.IsWhole) (oM : Memref sig .tc .vmem S2048x64 .f32) (ho : oM.IsWhole)
  (hw : wM.IsWhole) (hy : yM.IsWhole) (hr : rM.IsWhole) (s6 : DmaSems sig S4)

set_option maxHeartbeats 4000000

/-- The rest of tile 17, tiles 18 and 19, and tile 20 as far as its send. -/
theorem part13_run :
    iprop(records m K ∗ T2 m c 17 (by decide)) ⊢ WPc c (k0_part13 (F := F) xM hx aM ha oM ho wM hw yM hy rM hr s6 cc0_scratch4 cc0_scratch5 c (pos c)
      (yHalf m c true)) (fun _ => T2 m c 20 (by decide)) := by
  rw [k0_part13_eq_skeleton]
  unfold k0_part13_skel
  refine own_next m K 17 (by decide) (own_iff c 17 (by decide)) (pay := k0_pay45) (fun v => there_and_back v _ _) ?_
  refine tile_next m K 18 (by decide) (w := k0_pay46 (yHalf m c true)) (tile_of_slice m (slice_of_half m (by decide) rfl rfl _) _) (cnd := k0_cond69 c) (other_iff c 18 (by decide))
    (own_iff c 18 (by decide)) (dv := fun h => ⟨k0_dev51, k0_dev51_lt c h⟩) (fun _ => k0_dev51_eq) (k0_off19_eq c)
    (pay := k0_pay47) (fun v => there_and_back v _ _) ?_
  refine tile_next m K 19 (by decide) (w := k0_pay48 (yHalf m c true)) (tile_of_slice m (slice_of_half m (by decide) rfl rfl _) _) (cnd := k0_cond71 c) (other_iff c 19 (by decide))
    (own_iff c 19 (by decide)) (dv := fun h => ⟨k0_dev52, k0_dev52_lt c h⟩) (fun _ => k0_dev52_eq) (k0_off20_eq c)
    (pay := k0_pay49) (fun v => there_and_back v _ _) ?_
  refine send_next m K 20 (by decide) (w := k0_pay50 (yHalf m c true)) (tile_of_slice m (slice_of_half m (by decide) rfl rfl _) _) (cnd := k0_cond73 c) (other_iff c 20 (by decide))
    (dv := fun h => ⟨k0_dev53, k0_dev53_lt c h⟩) (fun _ => k0_dev53_eq) (k0_off21_eq c) ?_
  exact end_of_run m K _

/-- The rest of tile 20, tiles 21 and 22, and tile 23 as far as its send. -/
theorem part14_run :
    iprop(records m K ∗ T2 m c 20 (by decide)) ⊢ WPc c (k0_part14 (F := F) xM hx aM ha oM ho wM hw yM hy rM hr s6 cc0_scratch4 cc0_scratch5 c (pos c)
      (yHalf m c true)) (fun _ => T2 m c 23 (by decide)) := by
  rw [k0_part14_eq_skeleton]
  unfold k0_part14_skel
  refine own_next m K 20 (by decide) (own_iff c 20 (by decide)) (pay := k0_pay51) (fun v => there_and_back v _ _) ?_
  refine tile_next m K 21 (by decide) (w := k0_pay52 (yHalf m c true)) (tile_of_slice m (slice_of_half m (by decide) rfl rfl _) _) (cnd := k0_cond75 c) (other_iff c 21 (by decide))
    (own_iff c 21 (by decide)) (dv := fun h => ⟨k0_dev54, k0_dev54_lt c h⟩) (fun _ => k0_dev54_eq) (k0_off22_eq c)
    (pay := k0_pay53) (fun v => there_and_back v _ _) ?_
  refine tile_next m K 22 (by decide) (w := k0_pay54 (yHalf m c true)) (tile_of_slice m (slice_of_half m (by decide) rfl rfl _) _) (cnd := k0_cond77 c) (other_iff c 22 (by decide))
    (own_iff c 22 (by decide)) (dv := fun h => ⟨k0_dev55, k0_dev55_lt c h⟩) (fun _ => k0_dev55_eq) (k0_off23_eq c)
    (pay := k0_pay55) (fun v => there_and_back v _ _) ?_
  refine send_next m K 23 (by decide) (w := k0_pay56 (yHalf m c true)) (tile_of_slice m (slice_of_half m (by decide) rfl rfl _) _) (cnd := k0_cond79 c) (other_iff c 23 (by decide))
    (dv := fun h => ⟨k0_dev56, k0_dev56_lt c h⟩) (fun _ => k0_dev56_eq) (k0_off24_eq c) ?_
  exact end_of_run m K _

/-- The rest of tile 23, tiles 24 and 25, and tile 26 as far as its send. -/
theorem part15_run :
    iprop(records m K ∗ T2 m c 23 (by decide)) ⊢ WPc c (k0_part15 (F := F) xM hx aM ha oM ho wM hw yM hy rM hr s6 cc0_scratch4 cc0_scratch5 c (pos c)
      (yHalf m c true)) (fun _ => T2 m c 26 (by decide)) := by
  rw [k0_part15_eq_skeleton]
  unfold k0_part15_skel
  refine own_next m K 23 (by decide) (own_iff c 23 (by decide)) (pay := k0_pay57) (fun v => there_and_back v _ _) ?_
  refine tile_next m K 24 (by decide) (w := k0_pay58 (yHalf m c true)) (tile_of_slice m (slice_of_half m (by decide) rfl rfl _) _) (cnd := k0_cond81 c) (other_iff c 24 (by decide))
    (own_iff c 24 (by decide)) (dv := fun h => ⟨k0_dev57, k0_dev57_lt c h⟩) (fun _ => k0_dev57_eq) (k0_off25_eq c)
    (pay := k0_pay59) (fun v => there_and_back v _ _) ?_
  refine tile_next m K 25 (by decide) (w := k0_pay60 (yHalf m c true)) (tile_of_slice m (slice_of_half m (by decide) rfl rfl _) _) (cnd := k0_cond83 c) (other_iff c 25 (by decide))
    (own_iff c 25 (by decide)) (dv := fun h => ⟨k0_dev58, k0_dev58_lt c h⟩) (fun _ => k0_dev58_eq) (k0_off26_eq c)
    (pay := k0_pay61) (fun v => there_and_back v _ _) ?_
  refine send_next m K 26 (by decide) (w := k0_pay62 (yHalf m c true)) (tile_of_slice m (slice_of_half m (by decide) rfl rfl _) _) (cnd := k0_cond85 c) (other_iff c 26 (by decide))
    (dv := fun h => ⟨k0_dev59, k0_dev59_lt c h⟩) (fun _ => k0_dev59_eq) (k0_off27_eq c) ?_
  exact end_of_run m K _

/-- The rest of tile 26, tiles 27 and 28, and tile 29 as far as its send. -/
theorem part16_run :
    iprop(records m K ∗ T2 m c 26 (by decide)) ⊢ WPc c (k0_part16 (F := F) xM hx aM ha oM ho wM hw yM hy rM hr s6 cc0_scratch4 cc0_scratch5 c (pos c)
      (yHalf m c true)) (fun _ => T2 m c 29 (by decide)) := by
  rw [k0_part16_eq_skeleton]
  unfold k0_part16_skel
  refine own_next m K 26 (by decide) (own_iff c 26 (by decide)) (pay := k0_pay63) (fun v => there_and_back v _ _) ?_
  refine tile_next m K 27 (by decide) (w := k0_pay64 (yHalf m c true)) (tile_of_slice m (slice_of_half m (by decide) rfl rfl _) _) (cnd := k0_cond87 c) (other_iff c 27 (by decide))
    (own_iff c 27 (by decide)) (dv := fun h => ⟨k0_dev60, k0_dev60_lt c h⟩) (fun _ => k0_dev60_eq) (k0_off28_eq c)
    (pay := k0_pay65) (fun v => there_and_back v _ _) ?_
  refine tile_next m K 28 (by decide) (w := k0_pay66 (yHalf m c true)) (tile_of_slice m (slice_of_half m (by decide) rfl rfl _) _) (cnd := k0_cond89 c) (other_iff c 28 (by decide))
    (own_iff c 28 (by decide)) (dv := fun h => ⟨k0_dev61, k0_dev61_lt c h⟩) (fun _ => k0_dev61_eq) (k0_off29_eq c)
    (pay := k0_pay67) (fun v => there_and_back v _ _) ?_
  refine send_next m K 29 (by decide) (w := k0_pay68 (yHalf m c true)) (tile_of_slice m (slice_of_half m (by decide) rfl rfl _) _) (cnd := k0_cond91 c) (other_iff c 29 (by decide))
    (dv := fun h => ⟨k0_dev62, k0_dev62_lt c h⟩) (fun _ => k0_dev62_eq) (k0_off30_eq c) ?_
  exact end_of_run m K _

end Cert.KernelIdeal.Gen
-- ==== Proof.Body.lean ====
module
public import proofs.«01_k».proof.Proof.Finish
public import proofs.«01_k».proof.Proof.TilesLeft
public import proofs.«01_k».proof.Proof.TilesRight

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The kernel's run on one device. -/

variable {F : FTy → Type} [FloatOps F]

local notation "𝕄" => MT nD τ sig Unit (Elt F) ℕ UU ℕ

variable (m : (ℓ : Loc nD τ sig) → Buf (Elt F) ℓ) (K : Dev nD × Fin 7 → ℕ)

/-- A program run after another, in the form of a step. -/
theorem run_then {c : Dev nD} {P : sProp 𝕄} {α β : Type} {p : Prog (TpuEff nD τ sig (Elt F) Λ₀ .tc) α} {R : α → sProp 𝕄}
    (h : iprop(records m K ∗ P) ⊢ WPc c p R) (f : α → Prog (TpuEff nD τ sig (Elt F) Λ₀ .tc) β) (Q : β → sProp 𝕄) :
    iprop(records m K ∗ P) ⊢ iprop((∀ v, R v -∗ WPc c (f v) Q) -∗ WPc c (p >>= f) Q) := by
  iintro HP Hk
  ihave Hp := h $$ HP
  unfold WPc
  rw [wp_bind]
  iapply (wp_wand_r _ _ _)
  isplitl [Hp]; · iexact Hp
  iintro %v Hv
  iapply Hk; iexact Hv

/-- What a device's run of the kernel starts from, beside its staged block and its result's. -/
def bodyIn (c : Dev nD) : sProp 𝕄 :=
  iprop(fetches m c ∗ SG c 0
    ∗ (atPos ER (fetchCell c 0) 0 ∅ 0 ∗ atPos ER (fetchCell c 1) 0 ∅ 0 ∗ atPos ER (fetchCell c 2) 0 ∅ 0 ∗ atPos ER (fetchCell c 3) 0 ∅ 0)
    ∗ (barWait c ∗ ownSlot c ∗ sendToks c ∗ ySlots c) ∗ recvWait c ∗ atPos ER (sendCell c) 0 ∅ 0)

/-- What it ends in: the buffers, the weights argument, the staged blocks, all cells closed, nothing owed. -/
def bodyOut (c : Dev nD) : sProp 𝕄 :=
  iprop((wPts m c ∗ yPts m c ∗ rPts m c) ∗ aPts m c ∗ (fetchZeros c ∗ semVal (barCell c) 0 ∗ semVal (recvCell c) 0 ∗ semVal (sendCell c) 0)
    ∗ xPts m c ∗ oPts c (outAt m c) ∗ ow c 0)

/-- All signals sent: only the receive cells are owed to. -/
theorem signals_done (c : Dev nD) : SG (F := F) c 32 ⊢ ow c (oR c 0) := by
  unfold SG
  rw [show oB c 32 = 0 from oweTo_end barCell 1 c 32 (le_refl _), add_zero]
  iintro ⟨-, H⟩
  iexact H

set_option maxHeartbeats 4000000 in
/-- The kernel's run on device `c`. -/
theorem body_run (c : Dev nD) (hx : xM.IsWhole) (ha : aM.IsWhole) (ho : oM0.IsWhole) (hw : wM.IsWhole) (hy : yM.IsWhole) (hr : rM.IsWhole) :
    iprop(records m K ∗ bodyIn m c ∗ xPts m c ∗ (∃ f, oPts c f))
      ⊢ WPc c (cc0_body (F := F) xM hx aM ha oM0 ho wM hw yM hy rM hr cc0_scratch3 cc0_scratch4 cc0_scratch5) (fun _ => bodyOut m c) := by
  rw [cc0_body_eq_skeleton]
  unfold cc0_body_skel bodyIn
  iintro ⟨#HR, ⟨HF, HS, ⟨Ha0, Ha1, Ha2, Ha3⟩, HB, HV, HatS⟩, Hx, Ho⟩
  iapply (run_then m K (part1_run m K c hx ha oM0 ho hw hy hr cc0_scratch4 cc0_scratch5) _ _) $$ [HF HS]
  · isplitr; · iexact HR
    isplitl [HF] <;> iassumption
  iintro %v ⟨%hv, Hcr, HS⟩
  subst hv
  dsimp only
  iapply (run_then m K (part2_run m K c hx ha oM0 ho hw hy hr cc0_scratch3 cc0_scratch4 cc0_scratch5 (SemArray.scalar (sig.barrier 0 rfl)) rfl 2#32) _ _) $$ [HS]
  · isplitr; · iexact HR
    iexact HS
  iintro %v2 HS
  iapply (run_then m K (part3_run m K c hx ha oM0 ho hw hy hr cc0_scratch3 cc0_scratch4 cc0_scratch5 (SemArray.scalar (sig.barrier 0 rfl)) rfl v2) _ _) $$ [HS]
  · isplitr; · iexact HR
    iexact HS
  iintro %v3 HS
  iapply (run_then m K (part4_run m K c hx ha oM0 ho hw hy hr cc0_scratch3 cc0_scratch4 cc0_scratch5 (SemArray.scalar (sig.barrier 0 rfl)) rfl v3) _ _) $$ [HS]
  · isplitr; · iexact HR
    iexact HS
  iintro %v4 HS
  ihave HO := (signals_done c) $$ HS
  unfold fetchCreds
  icases Hcr with ⟨Hc0, Hc1, Hc2, Hc3⟩
  iapply (run_then m K (part5_run m K c hx ha oM0 ho hw hy hr cc0_scratch4 cc0_scratch5) _ _) $$ [Hc0 Hc1 Hc2 Ha0 Ha1 Ha2 Hx HO]
  · isplitr; · iexact HR
    isplitl [Hc0 Hc1 Hc2 Ha0 Ha1 Ha2]
    · unfold fetchWait
      isplitl [Hc0 Ha0]
      · isplitl [Hc0] <;> iassumption
      isplitl [Hc1 Ha1]
      · isplitl [Hc1] <;> iassumption
      isplitl [Hc2] <;> iassumption
    isplitl [Hx] <;> iassumption
  iintro %v5 ⟨%h5, HD, Hx, HO⟩
  subst h5
  iapply (run_then m K (part6_run m K c hx ha oM0 ho hw hy hr (SemArray.scalar (sig.barrier 0 rfl)) rfl) _ _) $$ [Hc3 Ha3 HB Hx HO]
  · isplitr; · iexact HR
    isplitl [Hc3 Ha3 HB]
    · isplitl [Hc3 Ha3]
      · unfold fetchWait
        isplitl [Hc3] <;> iassumption
      iexact HB
    isplitl [Hx] <;> iassumption
  iintro %v6 ⟨%h6, ⟨HD3, HzB, Hx⟩, HT⟩
  obtain ⟨w6, s6⟩ := v6
  obtain ⟨h6, hs6⟩ := h6
  dsimp only at h6 hs6
  subst h6
  dsimp only
  ihave HD := (all_fetched m c) $$ [HD HD3]
  · isplitl [HD] <;> iassumption
  icases HD with ⟨HzF, Hw, Ha⟩
  iapply (run_then m K (part7_run m K c hx ha oM0 ho hw hy hr cc0_scratch3 s6 hs6) _ _) $$ [HT]
  · isplitr; · iexact HR
    iexact HT
  iintro %v7 ⟨%h7, HT⟩
  iapply (run_then m K (part8_run m K c hx ha oM0 ho hw hy hr cc0_scratch3 v7 h7) _ _) $$ [HT]
  · isplitr; · iexact HR
    iexact HT
  iintro %v8 ⟨%h8, HT⟩
  iapply (run_then m K (part9_run m K c hx ha oM0 ho hw hy hr cc0_scratch3 v8 h8) _ _) $$ [HT]
  · isplitr; · iexact HR
    iexact HT
  iintro %v9 ⟨%h9, HT⟩
  iapply (run_then m K (part10_run m K c hx ha oM0 ho hw hy hr cc0_scratch3 v9 h9) _ _) $$ [HT]
  · isplitr; · iexact HR
    iexact HT
  iintro %v10 ⟨%h10, HT⟩
  iapply (run_then m K (part11_run m K c hx ha oM0 ho hw hy hr cc0_scratch3 v10 h10) _ _) $$ [HT]
  · isplitr; · iexact HR
    iexact HT
  iintro %v11 HT
  iapply (run_then m K (part12_run m K c hx ha oM0 ho hw hy hr) _ _) $$ [HT Hx Hw]
  · isplitr; · iexact HR
    isplitl [Hx Hw]
    · isplitl [Hx] <;> iassumption
    iexact HT
  iintro %v12 ⟨%h12, ⟨Hx, Hw⟩, HT⟩
  subst h12
  iapply (run_then m K (part13_run m K c hx ha oM0 ho hw hy hr cc0_scratch3) _ _) $$ [HT]
  · isplitr; · iexact HR
    iexact HT
  iintro %v13 HT
  iapply (run_then m K (part14_run m K c hx ha oM0 ho hw hy hr cc0_scratch3) _ _) $$ [HT]
  · isplitr; · iexact HR
    iexact HT
  iintro %v14 HT
  iapply (run_then m K (part15_run m K c hx ha oM0 ho hw hy hr cc0_scratch3) _ _) $$ [HT]
  · isplitr; · iexact HR
    iexact HT
  iintro %v15 HT
  iapply (run_then m K (part16_run m K c hx ha oM0 ho hw hy hr cc0_scratch3) _ _) $$ [HT]
  · isplitr; · iexact HR
    iexact HT
  iintro %v16 HT
  iapply (run_then m K (part17_run m K c hx ha oM0 ho hw hy hr cc0_scratch3) _ _) $$ [HT HV]
  · isplitr; · iexact HR
    isplitl [HV] <;> iassumption
  iintro %v17 ⟨Hr, HzV, Hy, Hcs, HO⟩
  iapply (wp_wand_r _ _ _)
  isplitl [Hr Hy Ho Hcs HatS HO]
  · iapply (tail_run m K c)
    isplitr; · iexact HR
    isplitl [Hr Hy Ho]
    · isplitl [Hr]; · iexact Hr
      isplitl [Hy] <;> iassumption
    isplitl [Hcs]; · iexact Hcs
    isplitl [HatS] <;> iassumption
  iintro %v18 ⟨⟨Hr, Hy, Ho⟩, HzS, HO⟩
  unfold bodyOut
  isplitl [Hw Hy Hr]
  · isplitl [Hw]; · iexact Hw
    isplitl [Hy] <;> iassumption
  isplitl [Ha]; · iexact Ha
  isplitl [HzF HzB HzV HzS]
  · isplitl [HzF]; · iexact HzF
    isplitl [HzB]; · iexact HzB
    isplitl [HzV] <;> iassumption
  isplitl [Hx]; · iexact Hx
  isplitl [Ho] <;> iassumption

end Cert.KernelIdeal.Gen
-- ==== Proof.Ghost.lean ====
module
public import proofs.«01_k».proof.Proof.Middle

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The ghost state of the exchange at launch, and its division among the devices. -/

variable {F : FTy → Type} [FloatOps F]

local notation "𝕄" => MT nD τ sig Unit (Elt F) ℕ UU ℕ

variable (m : (ℓ : Loc nD τ sig) → Buf (Elt F) ℓ)

/-- The cells of the exchange are distinct. -/
theorem kcell_inj : Function.Injective (fun p : Dev nD × Fin 7 => kcell p.1 p.2) := by
  rintro ⟨c, k⟩ ⟨c', k'⟩ h
  have h1 : c = c' := congrArg (fun g : GSem nD τ sig => g.1.1) h
  have h2 : csem k = csem k' := congrArg Prod.snd h
  have : ∀ a b : Fin 7, csem a = csem b → a = b := by decide
  rw [h1, this k k' h2]

/-- The cells of the exchange. -/
def allCells : Finset (GSem nD τ sig) := Finset.univ.map ⟨_, kcell_inj⟩

/-- So are their duties' tokens. -/
theorem token_inj : Function.Injective (fun p : (Dev nD × Fin 7) × Dev nD => ((kcell p.1.1 p.1.2, 0, p.2) : GSem nD τ sig × ℕ × Dev nD)) := by
  rintro ⟨p, d⟩ ⟨p', d'⟩ h
  have h1 : p = p' := kcell_inj (congrArg Prod.fst h)
  have h2 : d = d' := congrArg (fun x : GSem nD τ sig × ℕ × Dev nD => x.2.2) h
  rw [h1, h2]

/-- A token for each cell and each device. -/
def allToks : Finset (GSem nD τ sig × ℕ × Dev nD) := Finset.univ.map ⟨_, token_inj⟩

/-- The ghost state at launch: the staging's and the exchange's. -/
def u₀ : UU :=
  (initOf (Pipeline.cells cfgs cellOf_inj) (Pipeline.launchToks cfgs cellOf_inj), initOf allCells allToks)

/-- The tokens of a device's own cells. -/
def cellToks (c : Dev nD) : sProp 𝕄 :=
  bigSep Finset.univ fun k : Fin 7 => bigSep Finset.univ fun d : Dev nD => dutyTok ER (kcell c k) 0 d

/-- What a device gets at launch: its cells' state, its position at each, that each has reached round 0, and
its cells' tokens. -/
def G (c : Dev nD) : sProp 𝕄 :=
  iprop((bigSep Finset.univ fun k : Fin 7 => roundState ER (xRd m) (kcell c k) 0)
    ∗ (bigSep Finset.univ fun k : Fin 7 => iprop(atPos ER (kcell c k) 0 ∅ 0 ∗ reached ER (kcell c k) 0)) ∗ cellToks c)

/-- The launch's ghost state is every device's share. -/
theorem fund_all : BI.own (ER (initOf allCells allToks)) ⊢ (|==> bigSep Finset.univ (G m) : sProp 𝕄) := by
  have hC (Φ : GSem nD τ sig → sProp 𝕄) :
      bigSep allCells Φ = bigSep Finset.univ fun c : Dev nD => bigSep Finset.univ fun k : Fin 7 => Φ (kcell c k) := by
    unfold allCells; rw [bigSep_map, bigSep_univ_prod]; rfl
  have hT : bigSep allToks (fun x => (dutyTok ER x.1 x.2.1 x.2.2 : sProp 𝕄)) = bigSep Finset.univ fun c : Dev nD => cellToks c := by
    unfold allToks cellToks; rw [bigSep_map, bigSep_univ_prod, bigSep_univ_prod]; rfl
  iintro H
  imod (Rounds.fund ER (xRd m) allCells allToks) $$ H with ⟨Hst, Hr, Hat, Htok⟩
  imodintro
  ihave Hst := (Entails.of_eq (hC fun g => roundState ER (xRd m) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_pair]
  isplitl [Hst]; · iexact Hst
  isplitl [Hat Hr]
  · isplitl [Hat] <;> iassumption
  iexact Htok

/-- A family over seven. -/
theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The semaphores the kernel scopes itself: sends, receives, the four fetches. -/
abbrev osem : Fin 6 → SemLoc sig := fun k => csem k.succ

/-- These semaphores are scoped and none of them is a window's. -/
theorem ownSemFacts : Pipeline.OwnSemFacts cfg0.spec osem := by decide

/-- The kernel's own counters at zero, by name. -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ fetchZeros c) := by
  rw [Pipeline.ownSems0_eq_of_list c osem [0, 1, 2, 3, 4, 5] (by decide) (by decide)]; rfl

/-- The one counter outside the kernel's scope is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All seven counters at zero. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell c k) 0 : sProp 𝕄) := by
  rw [ownSems0_eq, unscopedSems0_eq, bigSep_seven]
  unfold fetchZeros
  iintro ⟨⟨HS, HV, HF⟩, HB⟩
  isplitl [HB]; · iexact HB
  isplitl [HS]; · iexact HS
  isplitl [HV]; · iexact HV
  iexact HF

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell c k)))
          ∗ (bigSep Finset.univ fun k => iprop(atPos ER (kcell c k) 0 ∅ 0 ∗ reached ER (kcell c k) 0)) ∗ cellToks c) := by
  unfold G
  iintro ⟨Hos, Hus, Hst, Hat, Htok⟩
  ihave Hv := (counters (F := F) c) $$ [Hos Hus]
  · isplitl [Hos] <;> iassumption
  imod (show iprop((bigSep Finset.univ fun k : Fin 7 => semVal (kcell c k) 0) ∗ bigSep Finset.univ fun k : Fin 7 => roundState ER (xRd m) (kcell c k) 0)
      ⊢ (|={Set.univ}=> bigSep Finset.univ fun k => iprop(∃ κ : ℕ, cellInv ER (xRd m) κ (kcell c k)) : sProp 𝕄) from by
        rw [← bigSep_pair]
        exact (BI.bigSep_mono fun k _ => (Rounds.body_intro ER (xRd m) (kcell c k)).trans inv_alloc).trans (bigSep_fupd _ _)) $$ [Hv Hst] with Hinv
  · isplitl [Hv] <;> iassumption
  imodintro
  isplitl [Hinv]; · iexact Hinv
  isplitl [Hat] <;> iassumption

/-- The tokens a device pays with: its signals', its sends' at both ends, its fetches'. -/
def payToks (c : Dev nD) : sProp 𝕄 :=
  iprop((bigSep (Finset.univ.erase c) fun i : Dev nD => dutyTok ER (barCell i) 0 c) ∗ sendToks c
    ∗ (dutyTok ER (fetchCell c 0) 0 c ∗ dutyTok ER (fetchCell c 1) 0 c ∗ dutyTok ER (fetchCell c 2) 0 c ∗ dutyTok ER (fetchCell c 3) 0 c))

/-- Of a family over all devices, the members of the others. -/
theorem others_of (c : Dev nD) (Φ : Dev nD → sProp 𝕄) : bigSep Finset.univ Φ ⊢ bigSep (Finset.univ.erase c) Φ :=
  BI.bigSep_subset (Finset.erase_subset c Finset.univ)
/-- Of a family over all devices, one's member. -/
theorem own_of (c : Dev nD) (Φ : Dev nD → sProp 𝕄) : bigSep Finset.univ Φ ⊢ Φ c := bigSep_elim (Finset.mem_univ c)

/-- What one device takes of the tokens dealt to it. -/
theorem deal_one (c : Dev nD) :
    iprop((bigSep Finset.univ fun d : Dev nD => dutyTok ER (barCell d) 0 c)
        ∗ (bigSep Finset.univ fun d : Dev nD => dutyTok ER (sendCell c) 0 d)
        ∗ (bigSep Finset.univ fun d : Dev nD => dutyTok ER (recvCell d) 0 c)
        ∗ (bigSep Finset.univ fun d : Dev nD => dutyTok ER (fetchCell c 0) 0 d)
        ∗ (bigSep Finset.univ fun d : Dev nD => dutyTok ER (fetchCell c 1) 0 d)
        ∗ (bigSep Finset.univ fun d : Dev nD => dutyTok ER (fetchCell c 2) 0 d)
        ∗ (bigSep Finset.univ fun d : Dev nD => dutyTok ER (fetchCell c 3) 0 d))
      ⊢ (payToks c : sProp 𝕄) := by
  unfold payToks sendToks
  rw [bigSep_pair]
  iintro ⟨HB, HS, HV, H0, H1, H2, H3⟩
  isplitl [HB]
  · iapply (others_of c (fun d : Dev nD => dutyTok ER (barCell d) 0 c)) $$ HB
  isplitl [HS HV]
  · isplitl [HS]
    · iapply (others_of c (fun d : Dev nD => dutyTok ER (sendCell c) 0 d)) $$ HS
    iapply (others_of c (fun d : Dev nD => dutyTok ER (recvCell d) 0 c)) $$ HV
  isplitl [H0]
  · iapply (own_of c (fun d : Dev nD => dutyTok ER (fetchCell c 0) 0 d)) $$ H0
  isplitl [H1]
  · iapply (own_of c (fun d : Dev nD => dutyTok ER (fetchCell c 1) 0 d)) $$ H1
  isplitl [H2]
  · iapply (own_of c (fun d : Dev nD => dutyTok ER (fetchCell c 2) 0 d)) $$ H2
  iapply (own_of c (fun d : Dev nD => dutyTok ER (fetchCell c 3) 0 d)) $$ H3

/-- The tokens go from the cells' devices to the devices that pay. -/
theorem toks_deal : (bigSep Finset.univ fun c : Dev nD => (cellToks c : sProp 𝕄)) ⊢ bigSep Finset.univ fun c : Dev nD => payToks c := by
  have hsw (k : Fin 7) : (bigSep Finset.univ fun c : Dev nD => bigSep Finset.univ fun d : Dev nD => (dutyTok ER (kcell c k) 0 d : sProp 𝕄))
      = bigSep Finset.univ fun c : Dev nD => bigSep Finset.univ fun d : Dev nD => dutyTok ER (kcell d k) 0 c := by
    rw [← bigSep_univ_prod (fun p : Dev nD × Dev nD => (dutyTok ER (kcell p.1 k) 0 p.2 : sProp 𝕄)),
      ← bigSep_univ_prod (fun p : Dev nD × Dev nD => (dutyTok ER (kcell p.2 k) 0 p.1 : sProp 𝕄)),
      bigSep_univ_equiv (Equiv.prodComm (Dev nD) (Dev nD)) (fun p : Dev nD × Dev nD => (dutyTok ER (kcell p.1 k) 0 p.2 : sProp 𝕄))]
    rfl
  have he : (bigSep Finset.univ fun c : Dev nD => (cellToks c : sProp 𝕄))
      = bigSep Finset.univ fun c : Dev nD => iprop((bigSep Finset.univ fun d : Dev nD => dutyTok ER (barCell d) 0 c)
        ∗ (bigSep Finset.univ fun d : Dev nD => dutyTok ER (sendCell c) 0 d)
        ∗ (bigSep Finset.univ fun d : Dev nD => dutyTok ER (recvCell d) 0 c)
        ∗ (bigSep Finset.univ fun d : Dev nD => dutyTok ER (fetchCell c 0) 0 d)
        ∗ (bigSep Finset.univ fun d : Dev nD => dutyTok ER (fetchCell c 1) 0 d)
        ∗ (bigSep Finset.univ fun d : Dev nD => dutyTok ER (fetchCell c 2) 0 d)
        ∗ (bigSep Finset.univ fun d : Dev nD => dutyTok ER (fetchCell c 3) 0 d)) := by
    unfold cellToks
    simp only [bigSep_seven, bigSep_pair]
    rw [hsw 0, hsw 2]
  rw [he]
  exact BI.bigSep_mono fun c _ => deal_one c

/-- The invariants of all the cells and that each has reached round 0. -/
def shared (K : Dev nD × Fin 7 → ℕ) : sProp 𝕄 :=
  iprop((bigSep Finset.univ fun p : Dev nD × Fin 7 => cellInv ER (xRd m) (K p) (kcell p.1 p.2))
    ∗ bigSep Finset.univ fun p : Dev nD × Fin 7 => reached ER (kcell p.1 p.2) 0)

/-- What all devices share may be used any number of times. -/
instance shared_persistent (K : Dev nD × Fin 7 → ℕ) : BI.Persistent (shared (F := F) m K) := by unfold shared; infer_instance

/-- What is a device's alone: its position at each of its cells, and its tokens. -/
def alone (c : Dev nD) : sProp 𝕄 := iprop((bigSep Finset.univ fun k : Fin 7 => atPos ER (kcell c k) 0 ∅ 0) ∗ payToks c)

/-- What a device's run starts from. -/
def G' (c : Dev nD) : sProp 𝕄 := iprop(∃ K, shared m K ∗ alone c)

/-- Persistent facts go to every member of a family. -/
theorem bigSep_give {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_pair]; exact BI.bigSep_mono h)

/-- What the launch gives cell by cell, handed out device by device. -/
theorem regroup :
    (bigSep Finset.univ fun c : Dev nD => iprop((bigSep Finset.univ fun k => iprop(∃ κ : ℕ, cellInv ER (xRd m) κ (kcell c k)))
          ∗ (bigSep Finset.univ fun k => iprop(atPos ER (kcell c k) 0 ∅ 0 ∗ reached ER (kcell c k) 0)) ∗ cellToks c) : sProp 𝕄)
      ⊢ bigSep Finset.univ (G' m) := by
  simp only [bigSep_pair]
  rw [← bigSep_univ_prod (fun p : Dev nD × Fin 7 => iprop(∃ κ : ℕ, cellInv ER (xRd m) κ (kcell p.1 p.2))),
    ← bigSep_univ_prod (fun p : Dev nD × Fin 7 => (reached ER (kcell p.1 p.2) 0 : sProp 𝕄))]
  iintro ⟨HI, ⟨Hat, #HR⟩, Htok⟩
  ihave HK := (BI.bigSep_exists_pi Finset.univ (fun (p : Dev nD × Fin 7) (κ : ℕ) => (cellInv ER (xRd m) κ (kcell p.1 p.2) : sProp 𝕄))) $$ HI
  icases HK with ⟨%K, #HI⟩
  ihave Htk := (toks_deal (F := F)) $$ Htok
  iapply (bigSep_give (R := shared m K) (Φ := alone) fun c _ => show _ ⊢ G' m c from by
    unfold G'
    iintro ⟨#HS, HA⟩
    iexists K
    isplitr; · iexact HS
    iexact HA)
  isplitr
  · unfold shared; isplitr; · iexact HI
    iexact HR
  · unfold alone
    rw [bigSep_pair]
    isplitl [Hat] <;> iassumption

/-- The step before all devices start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

end Cert.KernelIdeal.Gen
-- ==== Proof.Credits.lean ====
module
public import proofs.«01_k».proof.Proof.Ghost

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! What the devices owe each other's cells at launch. -/

variable {F : FTy → Type} [FloatOps F]

local notation "𝕄" => MT nD τ sig Unit (Elt F) ℕ UU ℕ

variable (m : (ℓ : Loc nD τ sig) → Buf (Elt F) ℓ)

/-- Cells that are equal belong to the same device and have the same number. -/
theorem other_cell (a b : Dev nD) (k k' : Fin 7) (h : kcell a k = kcell b k') : a = b ∧ k = k' := by
  have := kcell_inj (a₁ := (a, k)) (a₂ := (b, k')) h
  exact ⟨congrArg Prod.fst this, congrArg Prod.snd this⟩

/-- What device `d` owes one of the cells it owes to: `n`, unless the cell is its own. -/
theorem owed_at (k : Fin 7) (n : ℕ) (d c : Dev nD) :
    oweTo (fun i => kcell i k) n d 0 (kcell c k) () = if c = d then 0 else n := by
  unfold oweTo
  rw [Finset.sum_apply, Finsupp.finset_sum_apply]
  by_cases h : c = d
  · subst h
    rw [if_pos rfl]
    refine Finset.sum_eq_zero fun i hi => ?_
    rw [tallyAt_apply, if_neg]
    rintro ⟨h1, -⟩
    exact (Finset.mem_filter.1 hi).2.2 (other_cell _ _ _ _ h1).1.symm
  · rw [if_neg h, Finset.sum_eq_single c]
    · rw [tallyAt_apply, if_pos ⟨rfl, rfl⟩]
    · intro i _ hic
      rw [tallyAt_apply, if_neg]
      rintro ⟨h1, -⟩
      exact hic (other_cell _ _ _ _ h1).1.symm
    · intro hc
      exact absurd (Finset.mem_filter.2 ⟨Finset.mem_univ _, Nat.zero_le _, h⟩) hc

/-- It owes nothing to a cell of another kind. -/
theorem owed_none (k k' : Fin 7) (hk : k' ≠ k) (n : ℕ) (d c : Dev nD) :
    oweTo (fun i => kcell i k) n d 0 (kcell c k') () = 0 := by
  unfold oweTo
  rw [Finset.sum_apply, Finsupp.finset_sum_apply]
  refine Finset.sum_eq_zero fun i _ => ?_
  rw [tallyAt_apply, if_neg]
  rintro ⟨h1, -⟩
  exact hk (other_cell _ _ _ _ h1).2

/-- A device owes one unit to the barrier of each other device. -/
theorem owed_bar (d c : Dev nD) : O₀ d (barCell c) () = if c = d then 0 else 1 := by
  unfold O₀
  rw [Pi.add_apply, Finsupp.add_apply, show oR d 0 (barCell c) () = 0 from owed_none 2 0 (by decide) N d c, Nat.zero_add]
  exact owed_at 0 1 d c

/-- A device owes one tile's units to the receive cell of each other device. -/
theorem owed_recv (d c : Dev nD) : O₀ d (recvCell c) () = if c = d then 0 else N := by
  unfold O₀
  rw [Pi.add_apply, Finsupp.add_apply, show oB d 0 (recvCell c) () = 0 from owed_none 0 2 (by decide) 1 d c, Nat.add_zero]
  exact owed_at 2 N d c

/-- All devices together owe a cell the units of the 31 others. -/
theorem owed_sum (n : ℕ) (c : Dev nD) : (∑ d : Dev nD, if c = d then 0 else n) = 31 * n := by
  rw [← Finset.add_sum_erase Finset.univ _ (Finset.mem_univ c), if_pos rfl, Nat.zero_add,
    Finset.sum_congr rfl (g := fun _ => n) (fun d hd => if_neg (Finset.ne_of_mem_erase hd).symm), Finset.sum_const, card_others, smul_eq_mul]

/-- All together owe a barrier 31 units at launch. -/
theorem credit_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, owed_sum]

/-- All together owe a receive cell 31 tiles' units at launch. -/
theorem credit_recv (c : Dev nD) :
    tallyOn (recvCell c) (launchCredit (Pipeline.owing O₀) 0 (recvCell c)) = (tallyAt (recvCell c) () (31 * N) : CellTallies nD τ sig Unit) := by
  unfold tallyAt; refine congrArg _ (Finsupp.ext fun u => ?_); cases u
  rw [Pipeline.launchCredit_owing, Finsupp.single_eq_same, Finset.sum_congr rfl fun d _ => owed_recv d c, owed_sum]

/-- The credits a device starts with. -/
theorem creds (c : Dev nD) :
    (Pipeline.launchCred O₀ c : sProp 𝕄) ⊢ iprop(cred (tallyAt (barCell c) () 31) ∗ cred (tallyAt (recvCell c) () (31 * N))) := by
  unfold Pipeline.launchCred
  rw [bigSep_univ_at _ (csem 0), credit_bar]
  refine sep_mono_right ?_
  rw [← credit_recv]
  exact bigSep_elim (Finset.mem_erase.mpr ⟨by decide, Finset.mem_univ (csem 2)⟩)

end Cert.KernelIdeal.Gen
-- ==== Proof.Start.lean ====
module
public import proofs.«01_k».proof.Proof.Body
public import proofs.«01_k».proof.Proof.Credits

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! What a device starts its run from. -/

variable {F : FTy → Type} [FloatOps F]

local notation "𝕄" => MT nD τ sig Unit (Elt F) ℕ UU ℕ

variable (m : (ℓ : Loc nD τ sig) → Buf (Elt F) ℓ)

/-- A buffer of weights is its four row blocks. -/
theorem weights_split (c : Dev nD) (f : S2048x2048.Idx → Elt F .f32) :
    ((c : Thread nD τ).loc cc0_scratch0 ↦{fullShare} f : sProp 𝕄) = bigSep Finset.univ fun r : Fin 4 => wP c r f := by
  unfold wP
  refine Eq.trans ?_ (pointsTo_biUnion (ℓ := (c : Thread nD τ).loc cc0_scratch0) (q := fullShare) (f := f) Finset.univ rowSet rows_disjoint)
  exact congrArg (fun S => ((c : Thread nD τ).loc cc0_scratch0 ↦[S]{fullShare} f : sProp 𝕄)) rows_cover.symm

/-- The buffer of tiles is its slots. -/
theorem tiles_split (c : Dev nD) (f : S32x64x64.Idx → Elt F .bf16) :
    ((c : Thread nD τ).loc cc0_scratch1 ↦{fullShare} f : sProp 𝕄) = bigSep Finset.univ fun i : Dev nD => yP c i f := by
  unfold yP
  refine Eq.trans ?_ (pointsTo_biUnion (ℓ := (c : Thread nD τ).loc cc0_scratch1) (q := fullShare) (f := f) Finset.univ slotSet slots_disjoint)
  exact congrArg (fun S => ((c : Thread nD τ).loc cc0_scratch1 ↦[S]{fullShare} f : sProp 𝕄)) slots_cover.symm

/-- The buffer of received tiles is its slots. -/
theorem landing_split (c : Dev nD) (f : S32x64x64.Idx → Elt F .bf16) :
    ((c : Thread nD τ).loc cc0_scratch2 ↦{fullShare} f : sProp 𝕄) = bigSep Finset.univ fun i : Dev nD => rP c i f := by
  unfold rP
  refine Eq.trans ?_ (pointsTo_biUnion (ℓ := (c : Thread nD τ).loc cc0_scratch2) (q := fullShare) (f := f) Finset.univ slotSet slots_disjoint)
  exact congrArg (fun S => ((c : Thread nD τ).loc cc0_scratch2 ↦[S]{fullShare} f : sProp 𝕄)) slots_cover.symm

/-- The slots of the buffer of tiles, from the whole. -/
theorem tiles_in (c : Dev nD) (f : S32x64x64.Idx → Elt F .bf16) :
    ((c : Thread nD τ).loc cc0_scratch1 ↦{fullShare} f : sProp 𝕄) ⊢ ySlots c := by
  rw [tiles_split]
  unfold ySlots
  refine BI.bigSep_mono fun i _ => ?_
  exact exists_intro (Φ := fun f => yP c i f) f

/-- The landing slots, from the whole: the own one and those handed over by the signals. -/
theorem landing_in (c : Dev nD) (f : S32x64x64.Idx → Elt F .bf16) :
    ((c : Thread nD τ).loc cc0_scratch2 ↦{fullShare} f : sProp 𝕄)
      ⊢ iprop(ownSlot c ∗ bigSep (Finset.univ.erase c) fun i : Dev nD => iprop(∃ f, rP c i f)) := by
  rw [landing_split, bigSep_out c (fun i : Dev nD => rP c i f)]
  unfold ownSlot
  refine BI.sep_mono (exists_intro (Φ := fun f => rP c c f) f) (BI.bigSep_mono fun i _ => ?_)
  exact exists_intro (Φ := fun f => rP c i f) f

/-- What the fetches start from, from the buffers and the tokens. -/
theorem fetches_in (c : Dev nD) (f : S2048x2048.Idx → Elt F .f32) :
    iprop(((c : Thread nD τ).loc cc0_scratch0 ↦{fullShare} f) ∗ aPts m c
        ∗ (dutyTok ER (fetchCell c 0) 0 c ∗ dutyTok ER (fetchCell c 1) 0 c ∗ dutyTok ER (fetchCell c 2) 0 c ∗ dutyTok ER (fetchCell c 3) 0 c))
      ⊢ fetches m c := by
  unfold aPts
  rw [weights_split, ← argument_join, bigSep_four, bigSep_four]
  unfold fetches fetchPre
  iintro ⟨⟨W0, W1, W2, W3⟩, ⟨A0, A1, A2, A3⟩, T0, T1, T2, T3⟩
  isplitl [W0 A0 T0]
  · isplitl [W0]; · iexists f; iexact W0
    isplitl [A0] <;> iassumption
  isplitl [W1 A1 T1]
  · isplitl [W1]; · iexists f; iexact W1
    isplitl [A1] <;> iassumption
  isplitl [W2 A2 T2]
  · isplitl [W2]; · iexists f; iexact W2
    isplitl [A2] <;> iassumption
  isplitl [W3]; · iexists f; iexact W3
  isplitl [A3] <;> iassumption

/-- The signals' state before the first, from the tokens and the landing slots. -/
theorem signals_in (c : Dev nD) :
    iprop((bigSep (Finset.univ.erase c) fun i : Dev nD => dutyTok ER (barCell i) 0 c)
        ∗ (bigSep (Finset.univ.erase c) fun i : Dev nD => iprop(∃ f, rP c i f)) ∗ ow c (O₀ c)) ⊢ SG (F := F) c 0 := by
  have hs : (Finset.univ.filter fun i : Dev nD => 0 ≤ i.val ∧ i ≠ c) = Finset.univ.erase c := by
    ext i; simp
  unfold SG sigFor
  rw [hs, bigSep_pair]
  iintro ⟨HT, HL, HO⟩
  isplitl [HT HL]
  · isplitl [HT] <;> iassumption
  iexact HO

/-- What a device's core starts from. -/
def start (c : Dev nD) : sProp 𝕄 :=
  iprop(G' m c ∗ (cred (tallyAt (barCell c) () 31) ∗ cred (tallyAt (recvCell c) () (31 * N))) ∗ levAts L lv ∗ aPts m c)

/-- The kernel's three scratch buffers, whatever they hold. -/
def scratches (c : Dev nD) : sProp 𝕄 :=
  iprop((∃ f : S2048x2048.Idx → Elt F .f32, (c : Thread nD τ).loc cc0_scratch0 ↦{fullShare} f)
    ∗ (∃ f : S32x64x64.Idx → Elt F .bf16, (c : Thread nD τ).loc cc0_scratch1 ↦{fullShare} f)
    ∗ (∃ f : S32x64x64.Idx → Elt F .bf16, (c : Thread nD τ).loc cc0_scratch2 ↦{fullShare} f))

/-- From there to what the kernel's run takes. -/
theorem body_start (c : Dev nD) :
    iprop(start m c ∗ scratches c ∗ ow c (O₀ c)) ⊢ iprop(∃ K, records m K ∗ bodyIn m c) := by
  unfold start scratches G' shared alone payToks
  rw [bigSep_seven]
  iintro ⟨⟨⟨%K, ⟨#HI, #HR⟩, ⟨HaB, HaS, HaV, Ha0, Ha1, Ha2, Ha3⟩, HtB, HtS, HtF⟩, ⟨HcB, HcV⟩, #Hlev, Harg⟩, ⟨⟨%f0, Hw⟩, ⟨%f1, Hy⟩, ⟨%f2, Hr⟩⟩, HO⟩
  ihave HL := (landing_in (F := F) c f2) $$ Hr
  icases HL with ⟨Hown, HL⟩
  iexists K
  isplitr
  · unfold records
    isplitr; · iexact HI
    isplitr; · iexact HR
    iexact Hlev
  unfold bodyIn barWait recvWait
  isplitl [Hw Harg HtF]
  · iapply (fetches_in m c f0)
    isplitl [Hw]; · iexact Hw
    isplitl [Harg] <;> iassumption
  isplitl [HtB HL HO]
  · iapply (signals_in (F := F) c)
    isplitl [HtB]; · iexact HtB
    isplitl [HL] <;> iassumption
  isplitl [Ha0 Ha1 Ha2 Ha3]
  · isplitl [Ha0]; · iexact Ha0
    isplitl [Ha1]; · iexact Ha1
    isplitl [Ha2]; · iexact Ha2
    iexact Ha3
  isplitl [HcB HaB Hown HtS Hy]
  · isplitl [HcB HaB]
    · isplitl [HcB]; · iexact HcB
      iexact HaB
    isplitl [Hown]; · iexact Hown
    isplitl [HtS]; · iexact HtS
    iapply (tiles_in (F := F) c f1) $$ Hy
  isplitl [HcV HaV]
  · isplitl [HcV]; · iexact HcV
    iexact HaV
  iexact HaS

end Cert.KernelIdeal.Gen
-- ==== Proof.Run.lean ====
module
public import proofs.«01_k».proof.Proof.Start
public import proofs.«01_k».proof.Proof.Gen.KernelIdeal.Points
public import Idealize.ShloMosaic.Lib.Pipeline.CollectiveSegs
public import Idealize.ShloMosaic.Lib.Quiescent

@[expose] public section
set_option maxRecDepth 65536

noncomputable section

namespace Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! The run of the whole program. -/

variable {F : FTy → Type} [FloatOps F]

local notation "𝕄" => MT nD τ sig Unit (Elt F) ℕ UU ℕ

variable (m : (ℓ : Loc nD τ sig) → Buf (Elt F) ℓ)

variable (ρ : Dev nD → PrngReg)

/-- What the body leaves beside the staged blocks. -/
def fini (c : Dev nD) : sProp 𝕄 :=
  iprop((wPts m c ∗ yPts m c ∗ rPts m c) ∗ aPts m c ∗ (fetchZeros c ∗ semVal (barCell c) 0 ∗ semVal (recvCell c) 0 ∗ semVal (sendCell c) 0))

/-- The proof data of the kernel's one call. -/
def dats (_ : Fin 1) (c : Dev nD) : Pipeline.Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => iprop(start m c ∗ scratches c)
    | ⟨_ + 1, _⟩ => fini m c
  q _ := fullShare
  owed t := match t with
    | ⟨0, _⟩ => O₀ c
    | ⟨_ + 1, _⟩ => 0

/-- What holds of each window, for the two windows. -/
theorem bigSep_windows (Φ : Fin cfg0.W → sProp 𝕄) : bigSep Finset.univ Φ = iprop(Φ (0 : Fin 2) ∗ Φ (1 : Fin 2)) := bigSep_W0 Φ

/-- A whole buffer held through its view is held element by element. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged block at some contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the call's body starts from. -/
def callPre (c : Dev nD) : sProp 𝕄 :=
  iprop((start m c ∗ scratches c) ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

/-- What the call's body ends with. -/
def callPost (c : Dev nD) : sProp 𝕄 :=
  iprop(fini m c ∗ (dats m 0 c).owesAt () t0_0.succ ∗ stg c cc0_stg0_0 (xstg m c) ∗ stg c cc0_stg1_0 (outAt m c))

/-- The kernel's body, as the call runs it. -/
theorem call_body (c : Dev nD) :
    callPre m c ⊢ WPc c (cc0_body (F := F) xM (Memref.isWhole_whole _) aM (Memref.isWhole_whole _) oM0 (Memref.isWhole_whole _)
      wM (Memref.isWhole_whole _) yM (Memref.isWhole_whole _) rM (Memref.isWhole_whole _) cc0_scratch3 cc0_scratch4 cc0_scratch5)
      (fun _ => callPost m c) := by
  unfold callPre
  iintro ⟨⟨Hst, Hsc⟩, Ho, ⟨%d0, %g0, %hg0, Hx⟩, ⟨%d1, %g1, %hg1, Hout⟩⟩
  have hx : g0 = xstg m c := by rw [hg0]; unfold Pipeline.Dat.before; rw [if_pos (fetch0_0 t0_0)]; rfl
  subst hx
  unfold Pipeline.Dat.owesAt Pipeline.owesWithin
  icases Ho with ⟨%W, %hW, HO⟩
  rw [show (dats m 0 c).owed t0_0.castSucc = O₀ c from rfl]
  ihave HB := (body_start m c) $$ [Hst Hsc HO]
  · isplitl [Hst]; · iexact Hst
    isplitl [Hsc]; · iexact Hsc
    unfold ow; iexists W; iexact HO
  icases HB with ⟨%K, HR, HB⟩
  iapply (wp_wand_r _ _ _)
  isplitl [HR HB Hx Hout]
  · iapply (body_run m K c (Memref.isWhole_whole _) (Memref.isWhole_whole _) (Memref.isWhole_whole _) (Memref.isWhole_whole _) (Memref.isWhole_whole _) (Memref.isWhole_whole _))
    isplitl [HR]; · iexact HR
    isplitl [HB]; · iexact HB
    isplitl [Hx]; · unfold xPts; iexact Hx
    iexists g1; unfold oPts; iexact Hout
  iintro %v HB
  unfold bodyOut callPost fini Pipeline.Dat.owesAt Pipeline.owesWithin ow xPts oPts
  icases HB with ⟨Hbufs, Harg, Hz, Hx, Ho, ⟨%W', HO⟩⟩
  rw [show (dats m 0 c).owed t0_0.succ = 0 from rfl]
  isplitl [Hbufs Harg Hz]
  · isplitl [Hbufs]; · iexact Hbufs
    isplitl [Harg] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-- The call's obligation. -/
theorem call_obligation (c : Dev nD) : Pipeline.BodyObligation (dats (F := F) m 0 c) (defs₀ (F := F)) 𝒱₀ () Set.univ := fun t => by
  rw [fin_N0 t]
  rw [bigSep_windows, bigSep_windows]
  simp only [owns_whole_eq]
  exact call_body m c

/-- Each window's array is held whole. -/
theorem share_eq (c : Dev nD) (w : Fin cfg0.W) : (dats m 0 c).share w = fullShare := by unfold Pipeline.Dat.share; split <;> rfl

/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hrest, #Hlev, Hcr, -, HG⟩
  ihave Hc := (creds (F := F) c) $$ Hcr
  imodintro
  unfold start
  isplitl
  · isplitl [HG]; · iexact HG
    isplitl [Hc]; · iexact Hc
    isplitr; · iexact Hlev
    iapply (show Pipeline.unscopedRestP Pipeline.Prefetch.none cfg0.spec c (fun b => m ((c : Thread nD τ).loc b)) ⊢ (aPts m c : sProp 𝕄) from
      Entails.of_eq ((Pipeline.unscopedRestP_none _ _ _).trans (unscopedRest0_eq c _)))
    iexact Hrest
  · iempintro

/-- Entering the call adds its scratch buffers. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratches c) from rfl, scopedRest0_eq]
  unfold scratches
  iintro ⟨Hs, -, Hr⟩
  isplitl [Hs]; · iexact Hs
  iexact Hr

/-- Leaving it gives back the weights argument, the counters at zero and the scratch buffers. -/
theorem leave (c : Dev nD) :
    (dats m 0 c).Φ (Fin.last cfg0.N)
      ⊢ iprop((aPts m c ∗ unscopedSems0 c) ∗ Pipeline.ownSems0 osem c ∗ Pipeline.scopedRest cfg0.spec c) := by
  rw [show (dats m 0 c).Φ (Fin.last cfg0.N) = fini m c from rfl, scopedRest0_eq, ownSems0_eq, unscopedSems0_eq]
  unfold fini wPts yPts rPts
  iintro ⟨⟨Hw, Hy, Hr⟩, Harg, HzF, HzB, HzV, HzS⟩
  isplitl [Harg HzB]
  · isplitl [Harg] <;> iassumption
  isplitl [HzS HzV HzF]
  · isplitl [HzS]; · iexact HzS
    isplitl [HzV] <;> iassumption
  isplitl [Hw]; · iexists _; iexact Hw
  isplitl [Hy]; · iexists _; iexact Hy
  iexists _; iexact Hr

/-- The staging's waits are allowed whatever the devices still owe. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-- What a window's array holds after the run. -/
def finalA (c : Dev nD) (w : Fin cfg0.W) : Buf (Elt F) ((cfg0.win w).arr.view.loc (c : Thread nD τ)) := (dats m 0 c).arrAt w cfg0.N

/-- What a run ends in: the windows' arrays at their final contents, the weights unchanged. -/
def Ends : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- Every weakly fair run of the program on its 32 devices terminates, with the arrays at their final contents, the
weights unchanged, and all counters at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (call_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(aPts m c ∗ unscopedSems0 c)) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Ha, Hu⟩, -, HSI⟩
      unfold aPts
      icombine HSI Ha gives %ha
      imod (Pipeline.unscopedSems0_read (X := unscopedSems0 c) (c := c) fupd_intro s') $$ [Hu HSI] with ⟨%hu, HSI⟩
      · isplitl [Hu] <;> iassumption
      imodintro
      isplitr; · ipureintro; exact ⟨hu, Buf.eq_of_forall_mem_univ ha⟩
      iexact HSI)
    (hQ := fun _ h hs => ⟨fun c => ⟨(h c).1, (h c).2.2.2⟩, sem_eq_zero hs fun c => (h c).2.2.1⟩)

end Cert.KernelIdeal.Gen
-- ==== Proof.Frames.lean ====
module
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Proof
open Idealize.ShloMosaic Idealize.ShloMosaic.TcCoe Idealize.SL.Sem
open Cert.KernelIdeal

/-! The programs' runs with the values dropped. -/

variable {F : FTy → Type} [FloatOps F]

/-- What a run of the kernel leaves of its arguments. -/
theorem args_kept (m : (ℓ : Loc nD τ sig) → Buf (Elt F) ℓ) (r : PUnit × MemSt nD τ sig (Elt F)) (h : Gen.Ends m r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).1 0).trans ((Gen.dats m 0 c).arrAt_in (0 : Fin 2) rfl _), (h c).2⟩

/-- What a run of the kernel ends in, with the values of its result dropped. -/
def Kept (m : (ℓ : Loc nD τ sig) → Buf (Elt F) ℓ) (r : PUnit × MemSt nD τ sig (Elt F)) : Prop :=
  (∀ c : Dev nD,
    r.2.mem ((c : Thread nD τ).loc main_arg0) = m ((c : Thread nD τ).loc main_arg0)
      ∧ r.2.mem ((c : Thread nD τ).loc main_arg1) = m ((c : Thread nD τ).loc main_arg1))
    ∧ r.2.sem = fun _ => 0

/-- The kernel runs, keeps its arguments and ends with all counters at zero, whatever the floats are. -/
theorem run_kept (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (Kept m) :=
  (θ_run Cert.KernelIdeal.defs _ _).mono (fun r h => ⟨args_kept m r h.1, h.2⟩) (Gen.run_main (F := F) m ρ)

set_option smartUnfolding false in
/-- The kernel over machine floats runs, keeps its arguments and ends with all counters at zero. -/
theorem frame_kernel : Cert.quiescent_Kernel := fun m ρ _ => run_kept (F := Bits) m ρ

/-- The kernel over extended reals does too. -/
theorem frame_ideal : Cert.quiescent_KernelIdeal := fun m ρ _ => run_kept (F := Ideal) m ρ

/-- And the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof
-- ==== Proof.Gelu.lean ====
module
public import Idealize.ShloMosaic.PureOps.Ideal.Laws

@[expose] public section

noncomputable section

namespace Cert.Activation
open Idealize.ShloMosaic
open scoped BigOperators

/-! The activation as one function of an extended real, and a sum over 2048 terms as four sums. -/

/-- The activation by the hyperbolic tangent, with the constants as the reference writes them. -/
def gelu (v : EReal) : EReal :=
  Ideal.ofBits .f32 0x3F000000#32 * v * (Ideal.ofBits .f32 0x3F800000#32
    + Ideal.tanh (Ideal.ofBits .f32 0x3F4C422A#32 * (v + Ideal.ofBits .f32 0x3D372713#32 * (v * v * v))))

/-- The kernel multiplies the cubic term from the left; the product is the same. -/
theorem gelu_left (v : EReal) :
    Ideal.ofBits .f32 0x3F000000#32 * v * (Ideal.ofBits .f32 0x3F800000#32
      + Ideal.tanh (Ideal.ofBits .f32 0x3F4C422A#32 * (v + Ideal.ofBits .f32 0x3D372713#32 * v * v * v))) = gelu v := by
  rw [gelu, mul_assoc (Ideal.ofBits .f32 0x3D372713#32 * v) v v, mul_assoc (Ideal.ofBits .f32 0x3D372713#32) v (v * v),
    mul_assoc v v v]

/-- A sum over 2048 terms, taken 512 at a time from the left. -/
theorem sum_quarters (f : Fin 2048 → EReal) :
    ∑ k, f k = ((∑ k : Fin 512, f ⟨0 + k.val, by omega⟩ + ∑ k : Fin 512, f ⟨512 + k.val, by omega⟩)
      + ∑ k : Fin 512, f ⟨1024 + k.val, by omega⟩) + ∑ k : Fin 512, f ⟨1536 + k.val, by omega⟩ := by
  refine (Fin.sum_univ_add (a := 1536) (b := 512) f).trans ?_
  congr 1
  refine (Fin.sum_univ_add (a := 1024) (b := 512) fun i => f (Fin.castAdd 512 i)).trans ?_
  congr 1
  refine (Fin.sum_univ_add (a := 512) (b := 512) fun i => f (Fin.castAdd 512 (Fin.castAdd 512 i))).trans ?_
  congr 1

end Cert.Activation
-- ==== Proof.Block.lean ====
module
public import proofs.«01_k».proof.Proof.Contents
public import proofs.«01_k».proof.Proof.Gelu
public import Idealize.ShloMosaic.Lib.MatmulPlain
public import Idealize.ShloMosaic.Lib.Pipeline.ValueKit.Geometry

@[expose] public section
set_option maxRecDepth 65536

noncomputable section

namespace Cert.KernelIdeal.Gen
open Idealize.ShloMosaic
open Idealize.ShloMosaic.TcCoe
open Idealize.SL.Sem
open Idealize.ShloMosaic.ValueIdx
open Cert.Activation
open scoped BigOperators

/-! What one device computes of its own block, over the extended reals. -/

variable (m : (ℓ : Loc nD τ sig) → Buf (Elt Ideal) ℓ)

/-- Device `c`'s block of the first argument, as a matrix. -/
def xm (c : Dev nD) (r : Fin 64) (k : Fin 2048) : EReal :=
  (m ((c : Thread nD τ).loc main_arg0) : S64x2048.Idx → EReal) (ix2 r k)

/-- Device `c`'s copy of the second argument, as a matrix. -/
def wm (c : Dev nD) (k n : Fin 2048) : EReal :=
  (m ((c : Thread nD τ).loc main_arg1) : S2048x2048.Idx → EReal) (ix2 k n)

/-- The product of the two at one place. -/
def ym (c : Dev nD) (r : Fin 64) (n : Fin 2048) : EReal := ∑ k : Fin 2048, xm m c r k * wm m c k n

/-- The staged block is the argument's block. -/
theorem xstg_eq (c : Dev nD) : xstg m c = m ((c : Thread nD τ).loc main_arg0) := by
  funext j
  refine congrArg (m ((c : Thread nD τ).loc main_arg0)) (funext fun a => Fin.ext ?_)
  blk_simp
  exact (congrArg (· + (j a).val) (Nat.zero_mul _)).trans (Nat.zero_add _)

/-- An element of a rectangle of 512 columns of the staged block. -/
theorem xPart_at (c : Dev nD) (o : ℕ) (h : ∀ a, ![0, o] a + S64x512.size a ≤ S64x2048.size a) (ho : o + 512 ≤ 2048)
    (r : Fin 64) (k : Fin 512) : xPart m c ![0, o] h (ix2 r k) = xm m c r ⟨o + k.val, by omega⟩ := by
  unfold xPart xm
  rw [xstg_eq]
  refine congrArg (m ((c : Thread nD τ).loc main_arg0)) (funext fun a => Fin.ext ?_)
  match a with
  | ⟨0, _⟩ => exact (Nat.zero_add _).trans (Nat.one_mul _)
  | ⟨1, _⟩ => exact congrArg (o + ·) (Nat.one_mul _)

/-- An element of a rectangle of 512 rows of the left half of the weights. -/
theorem wPart_at (c : Dev nD) (o : ℕ) (h : ∀ a, ![o, 0] a + S512x1024.size a ≤ S2048x2048.size a) (ho : o + 512 ≤ 2048)
    (k : Fin 512) (n : Fin 1024) : wPart m c ![o, 0] h (ix2 k n) = wm m c ⟨o + k.val, by omega⟩ ⟨n.val, by omega⟩ := by
  unfold wPart wm wbuf
  refine congrArg (m ((c : Thread nD τ).loc main_arg1)) (funext fun a => Fin.ext ?_)
  match a with
  | ⟨0, _⟩ => exact congrArg (o + ·) (Nat.one_mul _)
  | ⟨1, _⟩ => exact (Nat.zero_add _).trans (Nat.one_mul _)

/-- An element of the staged block read whole. -/
theorem xWhole_at (c : Dev nD) (r : Fin 64) (k : Fin 2048) : xWhole m c (ix2 r k) = xm m c r k := by
  unfold xWhole xm
  rw [xstg_eq]
  refine congrArg (m ((c : Thread nD τ).loc main_arg0)) (funext fun a => Fin.ext ?_)
  match a with
  | ⟨0, _⟩ => exact (Nat.zero_add _).trans (Nat.one_mul _)
  | ⟨1, _⟩ => exact (Nat.zero_add _).trans (Nat.one_mul _)

/-- An element of the right half of the weights. -/
theorem wRight_at (c : Dev nD) (k : Fin 2048) (n : Fin 1024) :
    wRight m c (ix2 k n) = wm m c k ⟨1024 + n.val, by omega⟩ := by
  unfold wRight wm wbuf
  refine congrArg (m ((c : Thread nD τ).loc main_arg1)) (funext fun a => Fin.ext ?_)
  match a with
  | ⟨0, _⟩ => exact (Nat.zero_add _).trans (Nat.one_mul _)
  | ⟨1, _⟩ => exact congrArg (1024 + ·) (Nat.one_mul _)

/-- A cast of an array to its own shape changes nothing. -/
theorem cast_self {s : Shape} {α : Type} (x : s.Idx → α) (h : s.ShapeCasts s) (j : s.Idx) : shapeCast s x h j = x j :=
  shapeCast_apply x h j j rfl

/-- One partial product of 512 terms, at one place. -/
theorem part_at (x : FVec Ideal S64x512 .f32) (w : FVec Ideal S512x1024 .f32) (r : Fin 64) (n : Fin 1024) :
    matmul dot_S64x512_S512x1024_S64x1024_1_0_0_1_n_n none (shapeCast S64x512 x shapeCasts_S64x512_S64x512) w
      (constant S64x1024 .f32 0x00000000#32) (ix2 r n) = ∑ k : Fin 512, x (ix2 r k) * w (ix2 k n) := by
  refine (Ideal.matmul_plain_apply (M := 64) (K := 512) (N := 1024) none _ _ _ r n).trans ?_
  rw [show (constant S64x1024 .f32 0x00000000#32 : FVec Ideal S64x1024 .f32) (ix2 r n) = 0 from Ideal.ofBits_zero_f32, zero_add]
  exact Finset.sum_congr rfl fun k _ => by rw [cast_self]

/-- The product of 2048 terms, at one place. -/
theorem whole_at (x : FVec Ideal S64x2048 .f32) (w : FVec Ideal S2048x1024 .f32) (r : Fin 64) (n : Fin 1024) :
    matmul dot_S64x2048_S2048x1024_S64x1024_1_0_0_1_n_n none (shapeCast S64x2048 x shapeCasts_S64x2048_S64x2048) w
      (constant S64x1024 .f32 0x00000000#32) (ix2 r n) = ∑ k : Fin 2048, x (ix2 r k) * w (ix2 k n) := by
  refine (Ideal.matmul_plain_apply (M := 64) (K := 2048) (N := 1024) none _ _ _ r n).trans ?_
  rw [show (constant S64x1024 .f32 0x00000000#32 : FVec Ideal S64x1024 .f32) (ix2 r n) = 0 from Ideal.ofBits_zero_f32, zero_add]
  exact Finset.sum_congr rfl fun k _ => by rw [cast_self]

/-- The left half of the activations at one place: four partial products added, then the activation. -/
theorem yaOf_at (c : Dev nD) (r : Fin 64) (n : Fin 1024) :
    (yaOf m c : FVec Ideal S64x1024 .bf16) (ix2 r n) = gelu (ym m c r ⟨n.val, by omega⟩) := by
  refine (gelu_left _).trans (congrArg gelu ?_)
  show ((matmul dot_S64x512_S512x1024_S64x1024_1_0_0_1_n_n none (shapeCast S64x512 (xPart m c ![0, 0] inb_S64x2048_S64x512_0_0) shapeCasts_S64x512_S64x512) (wPart m c ![0, 0] inb_S2048x2048_S512x1024_0_0) (constant S64x1024 .f32 0x00000000#32) (ix2 r n) : EReal)
      + matmul dot_S64x512_S512x1024_S64x1024_1_0_0_1_n_n none (shapeCast S64x512 (xPart m c ![0, 512] inb_S64x2048_S64x512_0_512) shapeCasts_S64x512_S64x512) (wPart m c ![512, 0] inb_S2048x2048_S512x1024_512_0) (constant S64x1024 .f32 0x00000000#32) (ix2 r n)
      + matmul dot_S64x512_S512x1024_S64x1024_1_0_0_1_n_n none (shapeCast S64x512 (xPart m c ![0, 1024] inb_S64x2048_S64x512_0_1024) shapeCasts_S64x512_S64x512) (wPart m c ![1024, 0] inb_S2048x2048_S512x1024_1024_0) (constant S64x1024 .f32 0x00000000#32) (ix2 r n))
      + matmul dot_S64x512_S512x1024_S64x1024_1_0_0_1_n_n none (shapeCast S64x512 (xPart m c ![0, 1536] inb_S64x2048_S64x512_0_1536) shapeCasts_S64x512_S64x512) (wPart m c ![1536, 0] inb_S2048x2048_S512x1024_1536_0) (constant S64x1024 .f32 0x00000000#32) (ix2 r n) = _
  rw [part_at, part_at, part_at, part_at, ym, sum_quarters]
  refine congrArg₂ _ (congrArg₂ _ (congrArg₂ _ ?_ ?_) ?_) ?_ <;> refine Finset.sum_congr rfl fun k _ => ?_
  · rw [xPart_at m c 0 _ (by omega), wPart_at m c 0 _ (by omega)]
  · rw [xPart_at m c 512 _ (by omega), wPart_at m c 512 _ (by omega)]
  · rw [xPart_at m c 1024 _ (by omega), wPart_at m c 1024 _ (by omega)]
  · rw [xPart_at m c 1536 _ (by omega), wPart_at m c 1536 _ (by omega)]

/-- The right half of the activations at one place. -/
theorem ybOf_at (c : Dev nD) (r : Fin 64) (n : Fin 1024) :
    (ybOf m c : FVec Ideal S64x1024 .bf16) (ix2 r n) = gelu (ym m c r ⟨1024 + n.val, by omega⟩) := by
  refine (gelu_left _).trans (congrArg gelu ?_)
  refine (whole_at (xWhole m c) (wRight m c) r n).trans ?_
  exact Finset.sum_congr rfl fun k _ => by rw [xWhole_at, wRight_at]

/-- An element of a tile device `c` computes: tile `j` holds columns `64 j` to `64 j + 63`. -/
theorem Yc_at (c : Dev nD) (j : Fin 32) (r n : Fin 64) :
    (Yc m c : S32x64x64.Idx → EReal) (ix3 j r n) = gelu (ym m c r ⟨64 * j.val + n.val, by omega⟩) := by
  show (yHalf m c (decide (16 ≤ j.val)) : S64x1024.Idx → EReal) (ix2 r ⟨64 * (j.val % 16) + n.val, by omega⟩) = _
  by_cases h : 16 ≤ j.val
  · rw [decide_eq_true h]
    refine (ybOf_at m c r _).trans (congrArg (fun t => gelu (ym m c r t)) (Fin.ext ?_))
    show 1024 + (64 * (j.val % 16) + n.val) = 64 * j.val + n.val
    omega
  · rw [decide_eq_false h]
    refine (yaOf_at m c r _).trans (congrArg (fun t => gelu (ym m c r t)) (Fin.ext ?_))
    show 64 * (j.val % 16) + n.val = 64 * j.val + n.val
    omega

end Cert.KernelIdeal.Gen
-- ==== Proof.Array.lean ====
module
public import proofs.«01_k».proof.Proof.Run
public import proofs.«01_k».proof.Proof.Block

@[expose] public section
set_option maxRecDepth 65536

noncomputable section

namespace Cert.KernelIdeal.Gen
open Idealize.ShloMosaic
open Idealize.ShloMosaic.TcCoe
open Idealize.SL.Sem
open Idealize.ShloMosaic.ValueIdx
open Cert.Activation

/-! What the result array holds after a run. -/

/-- The one write-back covers the result array: it ends at what the body left. -/
theorem finalA_out {F : FTy → Type} [FloatOps F] (m : (ℓ : Loc nD τ sig) → Buf (Elt F) ℓ) (c : Dev nD) :
    finalA m c (1 : Fin 2) = outAt m c :=
  (dats m 0 c).arrAt_eq_of_after_last (1 : Fin 2) t0_0 (by decide +kernel) (outAt m c) fun _ => rfl

/-- Row `64 d + r` of device `c`'s result is row `r` of device `d`'s activations, at the columns of device `c`. -/
theorem outAt_at (m : (ℓ : Loc nD τ sig) → Buf (Elt Ideal) ℓ) (c d : Dev nD) (r n : Fin 64) :
    (outAt m c : S2048x64.Idx → EReal) (ix2 ⟨64 * d.val + r.val, by have := d.isLt; have : nD = 32 := rfl; omega⟩ n)
      = gelu (ym m d r ⟨64 * c.val + n.val, by have := c.isLt; have : nD = 32 := rfl; omega⟩) := by
  refine (shapeCast_apply (Rc m c) shapeCasts_S32x64x64_S2048x64 _ (ix3 (⟨d.val, d.isLt⟩ : Fin 32) r n) ?_).trans
    (Yc_at m d ⟨c.val, c.isLt⟩ r n)
  rw [Shape.rowMajor_val_three, Shape.rowMajor_val_two]
  show (d.val * 64 + r.val) * 64 + n.val = (64 * d.val + r.val) * 64 + n.val
  omega

end Cert.KernelIdeal.Gen
-- ==== Proof.Reference.lean ====
module
public import proofs.«01_k».proof.Proof.Gen.ReferenceIdeal.Run
public import proofs.«01_k».proof.Proof.Gelu
public import Idealize.ShloMosaic.Lib.StackMember

@[expose] public section

noncomputable section

namespace Cert.ReferenceIdeal.Value
open Cert.ReferenceIdeal Cert.ReferenceIdeal.Gen Idealize.ShloMosaic Idealize.ShloMosaic.TcCoe Idealize.SL.Sem
open Idealize.ShloMosaic.ValueIdx Idealize.ShloMosaic.StackMember
open Cert.Activation
open scoped BigOperators

/-! What the reference computes, over the extended reals. -/

/-- The reference's result: the activation of the product of the two matrices. -/
def result (X W : S2048x2048.Idx → EReal) : S2048x2048.Idx → EReal := fun i =>
  gelu (∑ k : Fin 2048, X (ix2 (i 0) k) * W (ix2 k (i 1)))

/-- The product at one place. -/
theorem product_at (X W : FVec Ideal S2048x2048 .f32) (i : S2048x2048.Idx) :
    Host.dotGeneral dot_S2048x2048_S2048x2048_S2048x2048_1_0_0_1_n_n none X W i
      = ∑ k : Fin 2048, X (ix2 (i 0) k) * W (ix2 k (i 1)) := by
  conv_lhs => rw [eq_ix2 i]
  exact dotGeneral_plain_apply (m := 2048) (k := 2048) (n := 2048) none X W (i 0) (i 1)

/-- The reference runs, ends with that result and keeps its arguments. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c).1.trans (funext fun i =>
    congrArg gelu (product_at (m ((c.tc : Thread nD τ).loc main_arg0)) (m ((c.tc : Thread nD τ).loc main_arg1)) i)), (h c).2⟩)
    (run (F := Ideal) m ρ)

end Cert.ReferenceIdeal.Value
-- ==== Proof.Equation.lean ====
module
public import proofs.«01_k».proof.Defs
public import proofs.«01_k».proof.Proof.Frames
public import proofs.«01_k».proof.Proof.Array
public import proofs.«01_k».proof.Proof.Reference
public import Idealize.ShloMosaic.Lib.Layout

@[expose] public section

noncomputable section

namespace Cert.Proof
open Idealize.ShloMosaic Idealize.ShloMosaic.TcCoe Idealize.SL.Sem
open Idealize.ShloMosaic.ValueIdx
open Cert.KernelIdeal
open Cert.Activation
open scoped BigOperators

/-! The kernel's result against the reference's. -/

variable (m : (ℓ : Loc nD τ sig) → Buf (Elt Ideal) ℓ) (X W : (⟨2, ![2048, 2048]⟩ : Shape).Idx → EReal)

/-- Where each device holds its block of the rows of `X` and the whole of `W`, device `c` ends with its block of the
    columns of the reference's result. -/
theorem out_eq (hX : ∀ c : Dev nD, m ((c : Thread nD τ).loc main_arg0)
      = Layout.block ⟨2, ![64, 2048]⟩ ⟨2, ![2048, 2048]⟩ 0 32 c X)
    (hW : ∀ c : Dev nD, m ((c : Thread nD τ).loc main_arg1) = W) (c : Dev nD) :
    Gen.outAt m c = Layout.block ⟨2, ![2048, 64]⟩ ⟨2, ![2048, 2048]⟩ 1 32 c (ReferenceIdeal.Value.result X W) := by
  funext j
  have h0 : (j 0).val < 2048 := (j 0).isLt
  have h1 : (j 1).val < 64 := (j 1).isLt
  have hc : c.val < 32 := c.isLt
  have hj : j = ix2 (⟨64 * ((j 0).val / 64) + (j 0).val % 64, by omega⟩ : Fin 2048) (⟨(j 1).val, h1⟩ : Fin 64) := by
    funext a
    match a with
    | ⟨0, _⟩ => exact Fin.ext (Nat.div_add_mod _ _).symm
    | ⟨1, _⟩ => rfl
  refine (congrArg (Gen.outAt m c) hj).trans ((Gen.outAt_at m c (⟨(j 0).val / 64, by show _ < 32; omega⟩ : Dev nD)
    (⟨(j 0).val % 64, by omega⟩ : Fin 64) ⟨(j 1).val, h1⟩).trans (congrArg gelu ?_))
  refine Finset.sum_congr rfl fun k _ => congrArg₂ _ ?_ ?_
  · unfold Gen.xm
    rw [hX]
    refine congrArg X (funext fun a => Fin.ext ?_)
    match a with
    | ⟨0, _⟩ => show (j 0).val / 64 * 64 + (j 0).val % 64 = (j 0).val; omega
    | ⟨1, _⟩ => rfl
  · unfold Gen.wm
    rw [hW]
    refine congrArg W (funext fun a => Fin.ext ?_)
    match a with
    | ⟨0, _⟩ => rfl
    | ⟨1, _⟩ => show 64 * c.val + (j 1).val = c.val * 64 + (j 1).val; omega

/-- The kernel over extended reals computes, on each device, its columns of the reference's result. -/
theorem algebraic : Cert.algebraic_KernelIdeal_ReferenceIdeal := fun m ρ m' ρ' _ hm =>
  ⟨ReferenceIdeal.Value.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h c =>
      ⟨((h.1 c).1 (1 : Fin 2)).trans ((Gen.finalA_out m c).trans
        (out_eq m _ _ (fun c => (hm c).1) (fun c => (hm c).2) c)), args_kept m r h.1 c⟩) (Gen.run_main (F := Ideal) m ρ),
    (θ_run Cert.ReferenceIdeal.defs _ _).mono (fun _ h => h 0) (Cert.ReferenceIdeal.Value.run_result m' ρ')⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed: the kernel and the reference run and keep their arguments, the idealized kernel is the kernel's
    own text, and over the extended reals each device ends with its columns of the reference's result. -/
theorem claim : Cert.Claim := ⟨Cert.Kernel.Gen.facts, Cert.KernelIdeal.Gen.facts, Cert.ReferenceIdeal.Gen.facts,
  frame_kernel, frame_ideal, frame_reference, trivial, algebraic⟩

end Cert.Proof

end
